-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_pre_gate [hPre_pre_gate : Cert.Pre_pre_gate.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_pre_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).1 = (fun _ => 1#1)
    ∧ (Cert.Pre_pre_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.1 = (fun _ => 1#1)
    ∧ (Cert.Pre_pre_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_pre_gate [hPre_pre_gate : Cert.Pre_pre_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_pre_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_pre_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_pre_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownRefIdeal (m : (ℓ : Loc Cert.WDownRefIdeal.nD Cert.WDownRefIdeal.τ Cert.WDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_pre_gu [hPre_pre_gu : Cert.Pre_pre_gu.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_pre_gu.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))).1 = (fun _ => 1#1)
    ∧ (Cert.Pre_pre_gu.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))).2 = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_pre_gu [hPre_pre_gu : Cert.Pre_pre_gu.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_pre_gu.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2))).1 = (fun _ => 1#1)
    ∧ (Cert.Pre_pre_gu.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2))).2 = (fun _ => 1#1)

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_SeqFwd (m : (ℓ : Loc Cert.SeqFwd.nD Cert.SeqFwd.τ Cert.SeqFwd.sig) → Buf (Elt Bits) ℓ) : Prop :=
  True

def Pre_SeqFwdIdeal (m : (ℓ : Loc Cert.SeqFwdIdeal.nD Cert.SeqFwdIdeal.τ Cert.SeqFwdIdeal.sig) → Buf (Elt Ideal) ℓ) : Prop :=
  True

def Pre_SeqFwdIdeal_pre_seq [hPre_pre_seq : Cert.Pre_pre_seq.Facts] (m : (ℓ : Loc Cert.SeqFwdIdeal.nD Cert.SeqFwdIdeal.τ Cert.SeqFwdIdeal.sig) → Buf (Elt Ideal) ℓ) : Prop :=
  ∀ c : Dev Cert.SeqFwdIdeal.nD,
    (Cert.Pre_pre_seq.fn (F := Ideal) (m ((c.tc : Thread Cert.SeqFwdIdeal.nD Cert.SeqFwdIdeal.τ).loc Cert.SeqFwdIdeal.main_arg0)) (m ((c.tc : Thread Cert.SeqFwdIdeal.nD Cert.SeqFwdIdeal.τ).loc Cert.SeqFwdIdeal.main_arg1)) (m ((c.tc : Thread Cert.SeqFwdIdeal.nD Cert.SeqFwdIdeal.τ).loc Cert.SeqFwdIdeal.main_arg2)) (m ((c.tc : Thread Cert.SeqFwdIdeal.nD Cert.SeqFwdIdeal.τ).loc Cert.SeqFwdIdeal.main_arg3)) (m ((c.tc : Thread Cert.SeqFwdIdeal.nD Cert.SeqFwdIdeal.τ).loc Cert.SeqFwdIdeal.main_arg4)) (m ((c.tc : Thread Cert.SeqFwdIdeal.nD Cert.SeqFwdIdeal.τ).loc Cert.SeqFwdIdeal.main_arg5)) (m ((c.tc : Thread Cert.SeqFwdIdeal.nD Cert.SeqFwdIdeal.τ).loc Cert.SeqFwdIdeal.main_arg6))) = (fun _ => 1#1)

def Pre_SeqFwdRefIdeal (m : (ℓ : Loc Cert.SeqFwdRefIdeal.nD Cert.SeqFwdRefIdeal.τ Cert.SeqFwdRefIdeal.sig) → Buf (Elt Ideal) ℓ) : Prop :=
  True

def Pre_SeqFwdRefIdeal_pre_seq [hPre_pre_seq : Cert.Pre_pre_seq.Facts] (m : (ℓ : Loc Cert.SeqFwdRefIdeal.nD Cert.SeqFwdRefIdeal.τ Cert.SeqFwdRefIdeal.sig) → Buf (Elt Ideal) ℓ) : Prop :=
  ∀ c : Dev Cert.SeqFwdRefIdeal.nD,
    (Cert.Pre_pre_seq.fn (F := Ideal) (m ((c.tc : Thread Cert.SeqFwdRefIdeal.nD Cert.SeqFwdRefIdeal.τ).loc Cert.SeqFwdRefIdeal.main_arg0)) (m ((c.tc : Thread Cert.SeqFwdRefIdeal.nD Cert.SeqFwdRefIdeal.τ).loc Cert.SeqFwdRefIdeal.main_arg1)) (m ((c.tc : Thread Cert.SeqFwdRefIdeal.nD Cert.SeqFwdRefIdeal.τ).loc Cert.SeqFwdRefIdeal.main_arg2)) (m ((c.tc : Thread Cert.SeqFwdRefIdeal.nD Cert.SeqFwdRefIdeal.τ).loc Cert.SeqFwdRefIdeal.main_arg3)) (m ((c.tc : Thread Cert.SeqFwdRefIdeal.nD Cert.SeqFwdRefIdeal.τ).loc Cert.SeqFwdRefIdeal.main_arg4)) (m ((c.tc : Thread Cert.SeqFwdRefIdeal.nD Cert.SeqFwdRefIdeal.τ).loc Cert.SeqFwdRefIdeal.main_arg5)) (m ((c.tc : Thread Cert.SeqFwdRefIdeal.nD Cert.SeqFwdRefIdeal.τ).loc Cert.SeqFwdRefIdeal.main_arg6))) = (fun _ => 1#1)

def Pre_PackSmall (m : (ℓ : Loc Cert.PackSmall.nD Cert.PackSmall.τ Cert.PackSmall.sig) → Buf (Elt Bits) ℓ) : Prop :=
  True

def Pre_PackSmallIdeal (m : (ℓ : Loc Cert.PackSmallIdeal.nD Cert.PackSmallIdeal.τ Cert.PackSmallIdeal.sig) → Buf (Elt Ideal) ℓ) : Prop :=
  True

def Pre_PackSmallRefIdeal (m : (ℓ : Loc Cert.PackSmallRefIdeal.nD Cert.PackSmallRefIdeal.τ Cert.PackSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdIdeal_pre_pre_gate [hGateBwdIdeal : Cert.GateBwdIdeal.Facts] [hPre_pre_gate : Cert.Pre_pre_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_pre_gate m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_pre_gate [hGateRefIdeal : Cert.GateRefIdeal.Facts] [hPre_pre_gate : Cert.Pre_pre_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_pre_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpIdeal_pre_pre_gu [hGateUpIdeal : Cert.GateUpIdeal.Facts] [hPre_pre_gu : Cert.Pre_pre_gu.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_pre_gu m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_GateUpRefIdeal_pre_pre_gu [hGateUpRefIdeal : Cert.GateUpRefIdeal.Facts] [hPre_pre_gu : Cert.Pre_pre_gu.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_pre_gu m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_SeqFwd [hSeqFwd : Cert.SeqFwd.Facts] : Prop :=
  ∀ (m : (ℓ : Loc Cert.SeqFwd.nD Cert.SeqFwd.τ Cert.SeqFwd.sig) → Buf (Elt Bits) ℓ) (g : Dev Cert.SeqFwd.nD → PrngReg), Pre_SeqFwd m →
    θ_run (Cert.SeqFwd.defs (F := Bits)) (onTc (τ := Cert.SeqFwd.τ) (Cert.SeqFwd.main (F := Bits))) ⟨m, fun _ => 0, g⟩ (fun r => (∀ c : Dev Cert.SeqFwd.nD,
      r.2.mem ((c.tc : Thread Cert.SeqFwd.nD Cert.SeqFwd.τ).loc Cert.SeqFwd.main_arg0) = m ((c.tc : Thread Cert.SeqFwd.nD Cert.SeqFwd.τ).loc Cert.SeqFwd.main_arg0)
      ∧ r.2.mem ((c.tc : Thread Cert.SeqFwd.nD Cert.SeqFwd.τ).loc Cert.SeqFwd.main_arg1) = m ((c.tc : Thread Cert.SeqFwd.nD Cert.SeqFwd.τ).loc Cert.SeqFwd.main_arg1)
      ∧ r.2.mem ((c.tc : Thread Cert.SeqFwd.nD Cert.SeqFwd.τ).loc Cert.SeqFwd.main_arg2) = m ((c.tc : Thread Cert.SeqFwd.nD Cert.SeqFwd.τ).loc Cert.SeqFwd.main_arg2)
      ∧ r.2.mem ((c.tc : Thread Cert.SeqFwd.nD Cert.SeqFwd.τ).loc Cert.SeqFwd.main_arg3) = m ((c.tc : Thread Cert.SeqFwd.nD Cert.SeqFwd.τ).loc Cert.SeqFwd.main_arg3)
      ∧ r.2.mem ((c.tc : Thread Cert.SeqFwd.nD Cert.SeqFwd.τ).loc Cert.SeqFwd.main_arg4) = m ((c.tc : Thread Cert.SeqFwd.nD Cert.SeqFwd.τ).loc Cert.SeqFwd.main_arg4)
      ∧ r.2.mem ((c.tc : Thread Cert.SeqFwd.nD Cert.SeqFwd.τ).loc Cert.SeqFwd.main_arg5) = m ((c.tc : Thread Cert.SeqFwd.nD Cert.SeqFwd.τ).loc Cert.SeqFwd.main_arg5)
      ∧ r.2.mem ((c.tc : Thread Cert.SeqFwd.nD Cert.SeqFwd.τ).loc Cert.SeqFwd.main_arg6) = m ((c.tc : Thread Cert.SeqFwd.nD Cert.SeqFwd.τ).loc Cert.SeqFwd.main_arg6))
      ∧ r.2.sem = fun _ => 0)

def quiescent_SeqFwdIdeal [hSeqFwdIdeal : Cert.SeqFwdIdeal.Facts] : Prop :=
  ∀ (m : (ℓ : Loc Cert.SeqFwdIdeal.nD Cert.SeqFwdIdeal.τ Cert.SeqFwdIdeal.sig) → Buf (Elt Ideal) ℓ) (g : Dev Cert.SeqFwdIdeal.nD → PrngReg), Pre_SeqFwdIdeal m →
    θ_run (Cert.SeqFwdIdeal.defs (F := Ideal)) (onTc (τ := Cert.SeqFwdIdeal.τ) (Cert.SeqFwdIdeal.main (F := Ideal))) ⟨m, fun _ => 0, g⟩ (fun r => (∀ c : Dev Cert.SeqFwdIdeal.nD,
      r.2.mem ((c.tc : Thread Cert.SeqFwdIdeal.nD Cert.SeqFwdIdeal.τ).loc Cert.SeqFwdIdeal.main_arg0) = m ((c.tc : Thread Cert.SeqFwdIdeal.nD Cert.SeqFwdIdeal.τ).loc Cert.SeqFwdIdeal.main_arg0)
      ∧ r.2.mem ((c.tc : Thread Cert.SeqFwdIdeal.nD Cert.SeqFwdIdeal.τ).loc Cert.SeqFwdIdeal.main_arg1) = m ((c.tc : Thread Cert.SeqFwdIdeal.nD Cert.SeqFwdIdeal.τ).loc Cert.SeqFwdIdeal.main_arg1)
      ∧ r.2.mem ((c.tc : Thread Cert.SeqFwdIdeal.nD Cert.SeqFwdIdeal.τ).loc Cert.SeqFwdIdeal.main_arg2) = m ((c.tc : Thread Cert.SeqFwdIdeal.nD Cert.SeqFwdIdeal.τ).loc Cert.SeqFwdIdeal.main_arg2)
      ∧ r.2.mem ((c.tc : Thread Cert.SeqFwdIdeal.nD Cert.SeqFwdIdeal.τ).loc Cert.SeqFwdIdeal.main_arg3) = m ((c.tc : Thread Cert.SeqFwdIdeal.nD Cert.SeqFwdIdeal.τ).loc Cert.SeqFwdIdeal.main_arg3)
      ∧ r.2.mem ((c.tc : Thread Cert.SeqFwdIdeal.nD Cert.SeqFwdIdeal.τ).loc Cert.SeqFwdIdeal.main_arg4) = m ((c.tc : Thread Cert.SeqFwdIdeal.nD Cert.SeqFwdIdeal.τ).loc Cert.SeqFwdIdeal.main_arg4)
      ∧ r.2.mem ((c.tc : Thread Cert.SeqFwdIdeal.nD Cert.SeqFwdIdeal.τ).loc Cert.SeqFwdIdeal.main_arg5) = m ((c.tc : Thread Cert.SeqFwdIdeal.nD Cert.SeqFwdIdeal.τ).loc Cert.SeqFwdIdeal.main_arg5)
      ∧ r.2.mem ((c.tc : Thread Cert.SeqFwdIdeal.nD Cert.SeqFwdIdeal.τ).loc Cert.SeqFwdIdeal.main_arg6) = m ((c.tc : Thread Cert.SeqFwdIdeal.nD Cert.SeqFwdIdeal.τ).loc Cert.SeqFwdIdeal.main_arg6))
      ∧ r.2.sem = fun _ => 0)

def quiescent_SeqFwdIdeal_pre_pre_seq [hSeqFwdIdeal : Cert.SeqFwdIdeal.Facts] [hPre_pre_seq : Cert.Pre_pre_seq.Facts] : Prop :=
  ∀ (m : (ℓ : Loc Cert.SeqFwdIdeal.nD Cert.SeqFwdIdeal.τ Cert.SeqFwdIdeal.sig) → Buf (Elt Ideal) ℓ) (g : Dev Cert.SeqFwdIdeal.nD → PrngReg), Pre_SeqFwdIdeal_pre_seq m →
    θ_run (Cert.SeqFwdIdeal.defs (F := Ideal)) (onTc (τ := Cert.SeqFwdIdeal.τ) (Cert.SeqFwdIdeal.main (F := Ideal))) ⟨m, fun _ => 0, g⟩ (fun r => (∀ c : Dev Cert.SeqFwdIdeal.nD,
      r.2.mem ((c.tc : Thread Cert.SeqFwdIdeal.nD Cert.SeqFwdIdeal.τ).loc Cert.SeqFwdIdeal.main_arg0) = m ((c.tc : Thread Cert.SeqFwdIdeal.nD Cert.SeqFwdIdeal.τ).loc Cert.SeqFwdIdeal.main_arg0)
      ∧ r.2.mem ((c.tc : Thread Cert.SeqFwdIdeal.nD Cert.SeqFwdIdeal.τ).loc Cert.SeqFwdIdeal.main_arg1) = m ((c.tc : Thread Cert.SeqFwdIdeal.nD Cert.SeqFwdIdeal.τ).loc Cert.SeqFwdIdeal.main_arg1)
      ∧ r.2.mem ((c.tc : Thread Cert.SeqFwdIdeal.nD Cert.SeqFwdIdeal.τ).loc Cert.SeqFwdIdeal.main_arg2) = m ((c.tc : Thread Cert.SeqFwdIdeal.nD Cert.SeqFwdIdeal.τ).loc Cert.SeqFwdIdeal.main_arg2)
      ∧ r.2.mem ((c.tc : Thread Cert.SeqFwdIdeal.nD Cert.SeqFwdIdeal.τ).loc Cert.SeqFwdIdeal.main_arg3) = m ((c.tc : Thread Cert.SeqFwdIdeal.nD Cert.SeqFwdIdeal.τ).loc Cert.SeqFwdIdeal.main_arg3)
      ∧ r.2.mem ((c.tc : Thread Cert.SeqFwdIdeal.nD Cert.SeqFwdIdeal.τ).loc Cert.SeqFwdIdeal.main_arg4) = m ((c.tc : Thread Cert.SeqFwdIdeal.nD Cert.SeqFwdIdeal.τ).loc Cert.SeqFwdIdeal.main_arg4)
      ∧ r.2.mem ((c.tc : Thread Cert.SeqFwdIdeal.nD Cert.SeqFwdIdeal.τ).loc Cert.SeqFwdIdeal.main_arg5) = m ((c.tc : Thread Cert.SeqFwdIdeal.nD Cert.SeqFwdIdeal.τ).loc Cert.SeqFwdIdeal.main_arg5)
      ∧ r.2.mem ((c.tc : Thread Cert.SeqFwdIdeal.nD Cert.SeqFwdIdeal.τ).loc Cert.SeqFwdIdeal.main_arg6) = m ((c.tc : Thread Cert.SeqFwdIdeal.nD Cert.SeqFwdIdeal.τ).loc Cert.SeqFwdIdeal.main_arg6))
      ∧ r.2.sem = fun _ => 0)

def quiescent_SeqFwdRefIdeal [hSeqFwdRefIdeal : Cert.SeqFwdRefIdeal.Facts] : Prop :=
  ∀ (m : (ℓ : Loc Cert.SeqFwdRefIdeal.nD Cert.SeqFwdRefIdeal.τ Cert.SeqFwdRefIdeal.sig) → Buf (Elt Ideal) ℓ) (g : Dev Cert.SeqFwdRefIdeal.nD → PrngReg), Pre_SeqFwdRefIdeal m →
    θ_run (Cert.SeqFwdRefIdeal.defs (F := Ideal)) (onTc (τ := Cert.SeqFwdRefIdeal.τ) (Cert.SeqFwdRefIdeal.main (F := Ideal))) ⟨m, fun _ => 0, g⟩ (fun r => (∀ c : Dev Cert.SeqFwdRefIdeal.nD,
      r.2.mem ((c.tc : Thread Cert.SeqFwdRefIdeal.nD Cert.SeqFwdRefIdeal.τ).loc Cert.SeqFwdRefIdeal.main_arg0) = m ((c.tc : Thread Cert.SeqFwdRefIdeal.nD Cert.SeqFwdRefIdeal.τ).loc Cert.SeqFwdRefIdeal.main_arg0)
      ∧ r.2.mem ((c.tc : Thread Cert.SeqFwdRefIdeal.nD Cert.SeqFwdRefIdeal.τ).loc Cert.SeqFwdRefIdeal.main_arg1) = m ((c.tc : Thread Cert.SeqFwdRefIdeal.nD Cert.SeqFwdRefIdeal.τ).loc Cert.SeqFwdRefIdeal.main_arg1)
      ∧ r.2.mem ((c.tc : Thread Cert.SeqFwdRefIdeal.nD Cert.SeqFwdRefIdeal.τ).loc Cert.SeqFwdRefIdeal.main_arg2) = m ((c.tc : Thread Cert.SeqFwdRefIdeal.nD Cert.SeqFwdRefIdeal.τ).loc Cert.SeqFwdRefIdeal.main_arg2)
      ∧ r.2.mem ((c.tc : Thread Cert.SeqFwdRefIdeal.nD Cert.SeqFwdRefIdeal.τ).loc Cert.SeqFwdRefIdeal.main_arg3) = m ((c.tc : Thread Cert.SeqFwdRefIdeal.nD Cert.SeqFwdRefIdeal.τ).loc Cert.SeqFwdRefIdeal.main_arg3)
      ∧ r.2.mem ((c.tc : Thread Cert.SeqFwdRefIdeal.nD Cert.SeqFwdRefIdeal.τ).loc Cert.SeqFwdRefIdeal.main_arg4) = m ((c.tc : Thread Cert.SeqFwdRefIdeal.nD Cert.SeqFwdRefIdeal.τ).loc Cert.SeqFwdRefIdeal.main_arg4)
      ∧ r.2.mem ((c.tc : Thread Cert.SeqFwdRefIdeal.nD Cert.SeqFwdRefIdeal.τ).loc Cert.SeqFwdRefIdeal.main_arg5) = m ((c.tc : Thread Cert.SeqFwdRefIdeal.nD Cert.SeqFwdRefIdeal.τ).loc Cert.SeqFwdRefIdeal.main_arg5)
      ∧ r.2.mem ((c.tc : Thread Cert.SeqFwdRefIdeal.nD Cert.SeqFwdRefIdeal.τ).loc Cert.SeqFwdRefIdeal.main_arg6) = m ((c.tc : Thread Cert.SeqFwdRefIdeal.nD Cert.SeqFwdRefIdeal.τ).loc Cert.SeqFwdRefIdeal.main_arg6))
      ∧ r.2.sem = fun _ => 0)

def quiescent_SeqFwdRefIdeal_pre_pre_seq [hSeqFwdRefIdeal : Cert.SeqFwdRefIdeal.Facts] [hPre_pre_seq : Cert.Pre_pre_seq.Facts] : Prop :=
  ∀ (m : (ℓ : Loc Cert.SeqFwdRefIdeal.nD Cert.SeqFwdRefIdeal.τ Cert.SeqFwdRefIdeal.sig) → Buf (Elt Ideal) ℓ) (g : Dev Cert.SeqFwdRefIdeal.nD → PrngReg), Pre_SeqFwdRefIdeal_pre_seq m →
    θ_run (Cert.SeqFwdRefIdeal.defs (F := Ideal)) (onTc (τ := Cert.SeqFwdRefIdeal.τ) (Cert.SeqFwdRefIdeal.main (F := Ideal))) ⟨m, fun _ => 0, g⟩ (fun r => (∀ c : Dev Cert.SeqFwdRefIdeal.nD,
      r.2.mem ((c.tc : Thread Cert.SeqFwdRefIdeal.nD Cert.SeqFwdRefIdeal.τ).loc Cert.SeqFwdRefIdeal.main_arg0) = m ((c.tc : Thread Cert.SeqFwdRefIdeal.nD Cert.SeqFwdRefIdeal.τ).loc Cert.SeqFwdRefIdeal.main_arg0)
      ∧ r.2.mem ((c.tc : Thread Cert.SeqFwdRefIdeal.nD Cert.SeqFwdRefIdeal.τ).loc Cert.SeqFwdRefIdeal.main_arg1) = m ((c.tc : Thread Cert.SeqFwdRefIdeal.nD Cert.SeqFwdRefIdeal.τ).loc Cert.SeqFwdRefIdeal.main_arg1)
      ∧ r.2.mem ((c.tc : Thread Cert.SeqFwdRefIdeal.nD Cert.SeqFwdRefIdeal.τ).loc Cert.SeqFwdRefIdeal.main_arg2) = m ((c.tc : Thread Cert.SeqFwdRefIdeal.nD Cert.SeqFwdRefIdeal.τ).loc Cert.SeqFwdRefIdeal.main_arg2)
      ∧ r.2.mem ((c.tc : Thread Cert.SeqFwdRefIdeal.nD Cert.SeqFwdRefIdeal.τ).loc Cert.SeqFwdRefIdeal.main_arg3) = m ((c.tc : Thread Cert.SeqFwdRefIdeal.nD Cert.SeqFwdRefIdeal.τ).loc Cert.SeqFwdRefIdeal.main_arg3)
      ∧ r.2.mem ((c.tc : Thread Cert.SeqFwdRefIdeal.nD Cert.SeqFwdRefIdeal.τ).loc Cert.SeqFwdRefIdeal.main_arg4) = m ((c.tc : Thread Cert.SeqFwdRefIdeal.nD Cert.SeqFwdRefIdeal.τ).loc Cert.SeqFwdRefIdeal.main_arg4)
      ∧ r.2.mem ((c.tc : Thread Cert.SeqFwdRefIdeal.nD Cert.SeqFwdRefIdeal.τ).loc Cert.SeqFwdRefIdeal.main_arg5) = m ((c.tc : Thread Cert.SeqFwdRefIdeal.nD Cert.SeqFwdRefIdeal.τ).loc Cert.SeqFwdRefIdeal.main_arg5)
      ∧ r.2.mem ((c.tc : Thread Cert.SeqFwdRefIdeal.nD Cert.SeqFwdRefIdeal.τ).loc Cert.SeqFwdRefIdeal.main_arg6) = m ((c.tc : Thread Cert.SeqFwdRefIdeal.nD Cert.SeqFwdRefIdeal.τ).loc Cert.SeqFwdRefIdeal.main_arg6))
      ∧ r.2.sem = fun _ => 0)

def quiescent_PackSmall [hPackSmall : Cert.PackSmall.Facts] : Prop :=
  ∀ (m : (ℓ : Loc Cert.PackSmall.nD Cert.PackSmall.τ Cert.PackSmall.sig) → Buf (Elt Bits) ℓ) (g : Dev Cert.PackSmall.nD → PrngReg), Pre_PackSmall m →
    θ_run (Cert.PackSmall.defs (F := Bits)) (onTc (τ := Cert.PackSmall.τ) (Cert.PackSmall.main (F := Bits))) ⟨m, fun _ => 0, g⟩ (fun r => (∀ c : Dev Cert.PackSmall.nD,
      r.2.mem ((c.tc : Thread Cert.PackSmall.nD Cert.PackSmall.τ).loc Cert.PackSmall.main_arg0) = m ((c.tc : Thread Cert.PackSmall.nD Cert.PackSmall.τ).loc Cert.PackSmall.main_arg0)
      ∧ r.2.mem ((c.tc : Thread Cert.PackSmall.nD Cert.PackSmall.τ).loc Cert.PackSmall.main_arg1) = m ((c.tc : Thread Cert.PackSmall.nD Cert.PackSmall.τ).loc Cert.PackSmall.main_arg1)
      ∧ r.2.mem ((c.tc : Thread Cert.PackSmall.nD Cert.PackSmall.τ).loc Cert.PackSmall.main_arg2) = m ((c.tc : Thread Cert.PackSmall.nD Cert.PackSmall.τ).loc Cert.PackSmall.main_arg2)
      ∧ r.2.mem ((c.tc : Thread Cert.PackSmall.nD Cert.PackSmall.τ).loc Cert.PackSmall.main_arg3) = m ((c.tc : Thread Cert.PackSmall.nD Cert.PackSmall.τ).loc Cert.PackSmall.main_arg3)
      ∧ r.2.mem ((c.tc : Thread Cert.PackSmall.nD Cert.PackSmall.τ).loc Cert.PackSmall.main_arg4) = m ((c.tc : Thread Cert.PackSmall.nD Cert.PackSmall.τ).loc Cert.PackSmall.main_arg4)
      ∧ r.2.mem ((c.tc : Thread Cert.PackSmall.nD Cert.PackSmall.τ).loc Cert.PackSmall.main_arg5) = m ((c.tc : Thread Cert.PackSmall.nD Cert.PackSmall.τ).loc Cert.PackSmall.main_arg5)
      ∧ r.2.mem ((c.tc : Thread Cert.PackSmall.nD Cert.PackSmall.τ).loc Cert.PackSmall.main_arg6) = m ((c.tc : Thread Cert.PackSmall.nD Cert.PackSmall.τ).loc Cert.PackSmall.main_arg6)
      ∧ r.2.mem ((c.tc : Thread Cert.PackSmall.nD Cert.PackSmall.τ).loc Cert.PackSmall.main_arg7) = m ((c.tc : Thread Cert.PackSmall.nD Cert.PackSmall.τ).loc Cert.PackSmall.main_arg7)
      ∧ r.2.mem ((c.tc : Thread Cert.PackSmall.nD Cert.PackSmall.τ).loc Cert.PackSmall.main_arg8) = m ((c.tc : Thread Cert.PackSmall.nD Cert.PackSmall.τ).loc Cert.PackSmall.main_arg8))
      ∧ r.2.sem = fun _ => 0)

def quiescent_PackSmallIdeal [hPackSmallIdeal : Cert.PackSmallIdeal.Facts] : Prop :=
  ∀ (m : (ℓ : Loc Cert.PackSmallIdeal.nD Cert.PackSmallIdeal.τ Cert.PackSmallIdeal.sig) → Buf (Elt Ideal) ℓ) (g : Dev Cert.PackSmallIdeal.nD → PrngReg), Pre_PackSmallIdeal m →
    θ_run (Cert.PackSmallIdeal.defs (F := Ideal)) (onTc (τ := Cert.PackSmallIdeal.τ) (Cert.PackSmallIdeal.main (F := Ideal))) ⟨m, fun _ => 0, g⟩ (fun r => (∀ c : Dev Cert.PackSmallIdeal.nD,
      r.2.mem ((c.tc : Thread Cert.PackSmallIdeal.nD Cert.PackSmallIdeal.τ).loc Cert.PackSmallIdeal.main_arg0) = m ((c.tc : Thread Cert.PackSmallIdeal.nD Cert.PackSmallIdeal.τ).loc Cert.PackSmallIdeal.main_arg0)
      ∧ r.2.mem ((c.tc : Thread Cert.PackSmallIdeal.nD Cert.PackSmallIdeal.τ).loc Cert.PackSmallIdeal.main_arg1) = m ((c.tc : Thread Cert.PackSmallIdeal.nD Cert.PackSmallIdeal.τ).loc Cert.PackSmallIdeal.main_arg1)
      ∧ r.2.mem ((c.tc : Thread Cert.PackSmallIdeal.nD Cert.PackSmallIdeal.τ).loc Cert.PackSmallIdeal.main_arg2) = m ((c.tc : Thread Cert.PackSmallIdeal.nD Cert.PackSmallIdeal.τ).loc Cert.PackSmallIdeal.main_arg2)
      ∧ r.2.mem ((c.tc : Thread Cert.PackSmallIdeal.nD Cert.PackSmallIdeal.τ).loc Cert.PackSmallIdeal.main_arg3) = m ((c.tc : Thread Cert.PackSmallIdeal.nD Cert.PackSmallIdeal.τ).loc Cert.PackSmallIdeal.main_arg3)
      ∧ r.2.mem ((c.tc : Thread Cert.PackSmallIdeal.nD Cert.PackSmallIdeal.τ).loc Cert.PackSmallIdeal.main_arg4) = m ((c.tc : Thread Cert.PackSmallIdeal.nD Cert.PackSmallIdeal.τ).loc Cert.PackSmallIdeal.main_arg4)
      ∧ r.2.mem ((c.tc : Thread Cert.PackSmallIdeal.nD Cert.PackSmallIdeal.τ).loc Cert.PackSmallIdeal.main_arg5) = m ((c.tc : Thread Cert.PackSmallIdeal.nD Cert.PackSmallIdeal.τ).loc Cert.PackSmallIdeal.main_arg5)
      ∧ r.2.mem ((c.tc : Thread Cert.PackSmallIdeal.nD Cert.PackSmallIdeal.τ).loc Cert.PackSmallIdeal.main_arg6) = m ((c.tc : Thread Cert.PackSmallIdeal.nD Cert.PackSmallIdeal.τ).loc Cert.PackSmallIdeal.main_arg6)
      ∧ r.2.mem ((c.tc : Thread Cert.PackSmallIdeal.nD Cert.PackSmallIdeal.τ).loc Cert.PackSmallIdeal.main_arg7) = m ((c.tc : Thread Cert.PackSmallIdeal.nD Cert.PackSmallIdeal.τ).loc Cert.PackSmallIdeal.main_arg7)
      ∧ r.2.mem ((c.tc : Thread Cert.PackSmallIdeal.nD Cert.PackSmallIdeal.τ).loc Cert.PackSmallIdeal.main_arg8) = m ((c.tc : Thread Cert.PackSmallIdeal.nD Cert.PackSmallIdeal.τ).loc Cert.PackSmallIdeal.main_arg8))
      ∧ r.2.sem = fun _ => 0)

def quiescent_PackSmallRefIdeal [hPackSmallRefIdeal : Cert.PackSmallRefIdeal.Facts] : Prop :=
  ∀ (m : (ℓ : Loc Cert.PackSmallRefIdeal.nD Cert.PackSmallRefIdeal.τ Cert.PackSmallRefIdeal.sig) → Buf (Elt Ideal) ℓ) (g : Dev Cert.PackSmallRefIdeal.nD → PrngReg), Pre_PackSmallRefIdeal m →
    θ_run (Cert.PackSmallRefIdeal.defs (F := Ideal)) (onTc (τ := Cert.PackSmallRefIdeal.τ) (Cert.PackSmallRefIdeal.main (F := Ideal))) ⟨m, fun _ => 0, g⟩ (fun r => (∀ c : Dev Cert.PackSmallRefIdeal.nD,
      r.2.mem ((c.tc : Thread Cert.PackSmallRefIdeal.nD Cert.PackSmallRefIdeal.τ).loc Cert.PackSmallRefIdeal.main_arg0) = m ((c.tc : Thread Cert.PackSmallRefIdeal.nD Cert.PackSmallRefIdeal.τ).loc Cert.PackSmallRefIdeal.main_arg0)
      ∧ r.2.mem ((c.tc : Thread Cert.PackSmallRefIdeal.nD Cert.PackSmallRefIdeal.τ).loc Cert.PackSmallRefIdeal.main_arg1) = m ((c.tc : Thread Cert.PackSmallRefIdeal.nD Cert.PackSmallRefIdeal.τ).loc Cert.PackSmallRefIdeal.main_arg1)
      ∧ r.2.mem ((c.tc : Thread Cert.PackSmallRefIdeal.nD Cert.PackSmallRefIdeal.τ).loc Cert.PackSmallRefIdeal.main_arg2) = m ((c.tc : Thread Cert.PackSmallRefIdeal.nD Cert.PackSmallRefIdeal.τ).loc Cert.PackSmallRefIdeal.main_arg2)
      ∧ r.2.mem ((c.tc : Thread Cert.PackSmallRefIdeal.nD Cert.PackSmallRefIdeal.τ).loc Cert.PackSmallRefIdeal.main_arg3) = m ((c.tc : Thread Cert.PackSmallRefIdeal.nD Cert.PackSmallRefIdeal.τ).loc Cert.PackSmallRefIdeal.main_arg3)
      ∧ r.2.mem ((c.tc : Thread Cert.PackSmallRefIdeal.nD Cert.PackSmallRefIdeal.τ).loc Cert.PackSmallRefIdeal.main_arg4) = m ((c.tc : Thread Cert.PackSmallRefIdeal.nD Cert.PackSmallRefIdeal.τ).loc Cert.PackSmallRefIdeal.main_arg4)
      ∧ r.2.mem ((c.tc : Thread Cert.PackSmallRefIdeal.nD Cert.PackSmallRefIdeal.τ).loc Cert.PackSmallRefIdeal.main_arg5) = m ((c.tc : Thread Cert.PackSmallRefIdeal.nD Cert.PackSmallRefIdeal.τ).loc Cert.PackSmallRefIdeal.main_arg5)
      ∧ r.2.mem ((c.tc : Thread Cert.PackSmallRefIdeal.nD Cert.PackSmallRefIdeal.τ).loc Cert.PackSmallRefIdeal.main_arg6) = m ((c.tc : Thread Cert.PackSmallRefIdeal.nD Cert.PackSmallRefIdeal.τ).loc Cert.PackSmallRefIdeal.main_arg6)
      ∧ r.2.mem ((c.tc : Thread Cert.PackSmallRefIdeal.nD Cert.PackSmallRefIdeal.τ).loc Cert.PackSmallRefIdeal.main_arg7) = m ((c.tc : Thread Cert.PackSmallRefIdeal.nD Cert.PackSmallRefIdeal.τ).loc Cert.PackSmallRefIdeal.main_arg7)
      ∧ r.2.mem ((c.tc : Thread Cert.PackSmallRefIdeal.nD Cert.PackSmallRefIdeal.τ).loc Cert.PackSmallRefIdeal.main_arg8) = m ((c.tc : Thread Cert.PackSmallRefIdeal.nD Cert.PackSmallRefIdeal.τ).loc Cert.PackSmallRefIdeal.main_arg8))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
      ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2))
      ∧ r.2.sem = fun _ => 0)

def preserves_InBwd_InBwdIdeal : Prop :=
  True

def algebraic_InBwdIdeal_InRefIdeal [hInBwdIdeal : Cert.InBwdIdeal.Facts] [hInRefIdeal : Cert.InRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v42) = v0 c
          ∧ r.2.mem ((c.tc : Thread Cert.InRefIdeal.nD Cert.InRefIdeal.τ).loc Cert.InRefIdeal.main_v43) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_GateBwd_GateBwdIdeal : Prop :=
  True

def algebraic_GateBwdIdeal_GateRefIdeal_pre_pre_gate [hGateBwdIdeal : Cert.GateBwdIdeal.Facts] [hGateRefIdeal : Cert.GateRefIdeal.Facts] [hPre_pre_gate : Cert.Pre_pre_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateBwdIdeal_pre_gate m →
    (∀ c : Dev Cert.GateBwdIdeal.nD,
      m' ((c.tc : Thread Cert.GateRefIdeal.nD Cert.GateRefIdeal.τ).loc Cert.GateRefIdeal.main_arg0) = m ((c.tc : Thread Cert.GateBwdIdeal.nD Cert.GateBwdIdeal.τ).loc Cert.GateBwdIdeal.main_arg0)
      ∧ m' ((c.tc : Thread Cert.GateRefIdeal.nD Cert.GateRefIdeal.τ).loc Cert.GateRefIdeal.main_arg1) = m ((c.tc : Thread Cert.GateBwdIdeal.nD Cert.GateBwdIdeal.τ).loc Cert.GateBwdIdeal.main_arg1)
      ∧ m' ((c.tc : Thread Cert.GateRefIdeal.nD Cert.GateRefIdeal.τ).loc Cert.GateRefIdeal.main_arg2) = m ((c.tc : Thread Cert.GateBwdIdeal.nD Cert.GateBwdIdeal.τ).loc Cert.GateBwdIdeal.main_arg2)
      ∧ m' ((c.tc : Thread Cert.GateRefIdeal.nD Cert.GateRefIdeal.τ).loc Cert.GateRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v4_0)) (v1 : (c : Dev Cert.GateBwdIdeal.nD) → Buf (Elt Ideal) ((c.tc : Thread Cert.GateBwdIdeal.nD Cert.GateBwdIdeal.τ).loc Cert.GateBwdIdeal.main_v4_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v4_0) = v0 c
          ∧ r.2.mem ((c.tc : Thread Cert.GateBwdIdeal.nD Cert.GateBwdIdeal.τ).loc Cert.GateBwdIdeal.main_v4_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v9) = v0 c
          ∧ r.2.mem ((c.tc : Thread Cert.GateRefIdeal.nD Cert.GateRefIdeal.τ).loc Cert.GateRefIdeal.main_v10) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_FfnBwd_FfnBwdIdeal : Prop :=
  True

def algebraic_FfnBwdIdeal_FfnRefIdeal [hFfnBwdIdeal : Cert.FfnBwdIdeal.Facts] [hFfnRefIdeal : Cert.FfnRefIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)
      ∧ m' ((c.tc : Thread Cert.FfnRefIdeal.nD Cert.FfnRefIdeal.τ).loc Cert.FfnRefIdeal.main_arg6) = m ((c.tc : Thread Cert.FfnBwdIdeal.nD Cert.FfnBwdIdeal.τ).loc Cert.FfnBwdIdeal.main_arg6)
      ∧ m' ((c.tc : Thread Cert.FfnRefIdeal.nD Cert.FfnRefIdeal.τ).loc Cert.FfnRefIdeal.main_arg7) = m ((c.tc : Thread Cert.FfnBwdIdeal.nD Cert.FfnBwdIdeal.τ).loc Cert.FfnBwdIdeal.main_arg7)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)) (v2 : (c : Dev Cert.FfnBwdIdeal.nD) → Buf (Elt Ideal) ((c.tc : Thread Cert.FfnBwdIdeal.nD Cert.FfnBwdIdeal.τ).loc Cert.FfnBwdIdeal.main_v0_2)) (v3 : (c : Dev Cert.FfnBwdIdeal.nD) → Buf (Elt Ideal) ((c.tc : Thread Cert.FfnBwdIdeal.nD Cert.FfnBwdIdeal.τ).loc Cert.FfnBwdIdeal.main_v0_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_v0_2) = v2 c
          ∧ r.2.mem ((c.tc : Thread Cert.FfnBwdIdeal.nD Cert.FfnBwdIdeal.τ).loc Cert.FfnBwdIdeal.main_v0_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v49) = v0 c
          ∧ r.2.mem ((c.tc : Thread Cert.FfnRefIdeal.nD Cert.FfnRefIdeal.τ).loc Cert.FfnRefIdeal.main_v54) = v1 c
          ∧ r.2.mem ((c.tc : Thread Cert.FfnRefIdeal.nD Cert.FfnRefIdeal.τ).loc Cert.FfnRefIdeal.main_v53) = v2 c
          ∧ r.2.mem ((c.tc : Thread Cert.FfnRefIdeal.nD Cert.FfnRefIdeal.τ).loc Cert.FfnRefIdeal.main_v50) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_WDown_WDownIdeal : Prop :=
  True

def algebraic_WDownIdeal_WDownRefIdeal [hWDownIdeal : Cert.WDownIdeal.Facts] [hWDownRefIdeal : Cert.WDownRefIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownIdeal m →
    (∀ c : Dev Cert.WDownIdeal.nD,
      m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0)
      ∧ m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v0)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v0) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v6) = v0 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v20) = v0 c
          ∧ r.2.mem ((c.tc : Thread Cert.InProjRefIdeal.nD Cert.InProjRefIdeal.τ).loc Cert.InProjRefIdeal.main_v21) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v18) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_GateUp_GateUpIdeal : Prop :=
  True

def algebraic_GateUpIdeal_GateUpRefIdeal_pre_pre_gu [hGateUpIdeal : Cert.GateUpIdeal.Facts] [hGateUpRefIdeal : Cert.GateUpRefIdeal.Facts] [hPre_pre_gu : Cert.Pre_pre_gu.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal_pre_gu m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v9) = v0 c
          ∧ r.2.mem ((c.tc : Thread Cert.GateUpRefIdeal.nD Cert.GateUpRefIdeal.τ).loc Cert.GateUpRefIdeal.main_v10) = v1 c
          ∧ r.2.mem ((c.tc : Thread Cert.GateUpRefIdeal.nD Cert.GateUpRefIdeal.τ).loc Cert.GateUpRefIdeal.main_v12) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)) (v3 : (c : Dev Cert.DownLossIdeal.nD) → Buf (Elt Ideal) ((c.tc : Thread Cert.DownLossIdeal.nD Cert.DownLossIdeal.τ).loc Cert.DownLossIdeal.main_v0_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_v0_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v55) = v0 c
          ∧ r.2.mem ((c.tc : Thread Cert.DownLossRefIdeal.nD Cert.DownLossRefIdeal.τ).loc Cert.DownLossRefIdeal.main_v57) = v1 c
          ∧ r.2.mem ((c.tc : Thread Cert.DownLossRefIdeal.nD Cert.DownLossRefIdeal.τ).loc Cert.DownLossRefIdeal.main_v58) = v2 c
          ∧ r.2.mem ((c.tc : Thread Cert.DownLossRefIdeal.nD Cert.DownLossRefIdeal.τ).loc Cert.DownLossRefIdeal.main_v56) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v6) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v6) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_SeqFwd_SeqFwdIdeal : Prop :=
  True

def algebraic_SeqFwdIdeal_SeqFwdRefIdeal_pre_pre_seq [hSeqFwdIdeal : Cert.SeqFwdIdeal.Facts] [hSeqFwdRefIdeal : Cert.SeqFwdRefIdeal.Facts] [hPre_pre_seq : Cert.Pre_pre_seq.Facts] : Prop :=
  ∀ (m : (ℓ : Loc Cert.SeqFwdIdeal.nD Cert.SeqFwdIdeal.τ Cert.SeqFwdIdeal.sig) → Buf (Elt Ideal) ℓ) (g : Dev Cert.SeqFwdIdeal.nD → PrngReg)
    (m' : (ℓ : Loc Cert.SeqFwdRefIdeal.nD Cert.SeqFwdRefIdeal.τ Cert.SeqFwdRefIdeal.sig) → Buf (Elt Ideal) ℓ) (g' : Dev Cert.SeqFwdRefIdeal.nD → PrngReg), Pre_SeqFwdIdeal_pre_seq m →
    (∀ c : Dev Cert.SeqFwdIdeal.nD,
      m' ((c.tc : Thread Cert.SeqFwdRefIdeal.nD Cert.SeqFwdRefIdeal.τ).loc Cert.SeqFwdRefIdeal.main_arg0) = m ((c.tc : Thread Cert.SeqFwdIdeal.nD Cert.SeqFwdIdeal.τ).loc Cert.SeqFwdIdeal.main_arg0)
      ∧ m' ((c.tc : Thread Cert.SeqFwdRefIdeal.nD Cert.SeqFwdRefIdeal.τ).loc Cert.SeqFwdRefIdeal.main_arg1) = m ((c.tc : Thread Cert.SeqFwdIdeal.nD Cert.SeqFwdIdeal.τ).loc Cert.SeqFwdIdeal.main_arg1)
      ∧ m' ((c.tc : Thread Cert.SeqFwdRefIdeal.nD Cert.SeqFwdRefIdeal.τ).loc Cert.SeqFwdRefIdeal.main_arg2) = m ((c.tc : Thread Cert.SeqFwdIdeal.nD Cert.SeqFwdIdeal.τ).loc Cert.SeqFwdIdeal.main_arg2)
      ∧ m' ((c.tc : Thread Cert.SeqFwdRefIdeal.nD Cert.SeqFwdRefIdeal.τ).loc Cert.SeqFwdRefIdeal.main_arg3) = m ((c.tc : Thread Cert.SeqFwdIdeal.nD Cert.SeqFwdIdeal.τ).loc Cert.SeqFwdIdeal.main_arg3)
      ∧ m' ((c.tc : Thread Cert.SeqFwdRefIdeal.nD Cert.SeqFwdRefIdeal.τ).loc Cert.SeqFwdRefIdeal.main_arg4) = m ((c.tc : Thread Cert.SeqFwdIdeal.nD Cert.SeqFwdIdeal.τ).loc Cert.SeqFwdIdeal.main_arg4)
      ∧ m' ((c.tc : Thread Cert.SeqFwdRefIdeal.nD Cert.SeqFwdRefIdeal.τ).loc Cert.SeqFwdRefIdeal.main_arg5) = m ((c.tc : Thread Cert.SeqFwdIdeal.nD Cert.SeqFwdIdeal.τ).loc Cert.SeqFwdIdeal.main_arg5)
      ∧ m' ((c.tc : Thread Cert.SeqFwdRefIdeal.nD Cert.SeqFwdRefIdeal.τ).loc Cert.SeqFwdRefIdeal.main_arg6) = m ((c.tc : Thread Cert.SeqFwdIdeal.nD Cert.SeqFwdIdeal.τ).loc Cert.SeqFwdIdeal.main_arg6)) →
    ∃ (v0 : (c : Dev Cert.SeqFwdIdeal.nD) → Buf (Elt Ideal) ((c.tc : Thread Cert.SeqFwdIdeal.nD Cert.SeqFwdIdeal.τ).loc Cert.SeqFwdIdeal.main_v0_0)) (v1 : (c : Dev Cert.SeqFwdIdeal.nD) → Buf (Elt Ideal) ((c.tc : Thread Cert.SeqFwdIdeal.nD Cert.SeqFwdIdeal.τ).loc Cert.SeqFwdIdeal.main_v0_1)),
      θ_run (Cert.SeqFwdIdeal.defs (F := Ideal)) (onTc (τ := Cert.SeqFwdIdeal.τ) (Cert.SeqFwdIdeal.main (F := Ideal))) ⟨m, fun _ => 0, g⟩ (fun r => ∀ c : Dev Cert.SeqFwdIdeal.nD,
          r.2.mem ((c.tc : Thread Cert.SeqFwdIdeal.nD Cert.SeqFwdIdeal.τ).loc Cert.SeqFwdIdeal.main_v0_0) = v0 c
          ∧ r.2.mem ((c.tc : Thread Cert.SeqFwdIdeal.nD Cert.SeqFwdIdeal.τ).loc Cert.SeqFwdIdeal.main_v0_1) = v1 c
          ∧ r.2.mem ((c.tc : Thread Cert.SeqFwdIdeal.nD Cert.SeqFwdIdeal.τ).loc Cert.SeqFwdIdeal.main_arg0) = m ((c.tc : Thread Cert.SeqFwdIdeal.nD Cert.SeqFwdIdeal.τ).loc Cert.SeqFwdIdeal.main_arg0)
          ∧ r.2.mem ((c.tc : Thread Cert.SeqFwdIdeal.nD Cert.SeqFwdIdeal.τ).loc Cert.SeqFwdIdeal.main_arg1) = m ((c.tc : Thread Cert.SeqFwdIdeal.nD Cert.SeqFwdIdeal.τ).loc Cert.SeqFwdIdeal.main_arg1)
          ∧ r.2.mem ((c.tc : Thread Cert.SeqFwdIdeal.nD Cert.SeqFwdIdeal.τ).loc Cert.SeqFwdIdeal.main_arg2) = m ((c.tc : Thread Cert.SeqFwdIdeal.nD Cert.SeqFwdIdeal.τ).loc Cert.SeqFwdIdeal.main_arg2)
          ∧ r.2.mem ((c.tc : Thread Cert.SeqFwdIdeal.nD Cert.SeqFwdIdeal.τ).loc Cert.SeqFwdIdeal.main_arg3) = m ((c.tc : Thread Cert.SeqFwdIdeal.nD Cert.SeqFwdIdeal.τ).loc Cert.SeqFwdIdeal.main_arg3)
          ∧ r.2.mem ((c.tc : Thread Cert.SeqFwdIdeal.nD Cert.SeqFwdIdeal.τ).loc Cert.SeqFwdIdeal.main_arg4) = m ((c.tc : Thread Cert.SeqFwdIdeal.nD Cert.SeqFwdIdeal.τ).loc Cert.SeqFwdIdeal.main_arg4)
          ∧ r.2.mem ((c.tc : Thread Cert.SeqFwdIdeal.nD Cert.SeqFwdIdeal.τ).loc Cert.SeqFwdIdeal.main_arg5) = m ((c.tc : Thread Cert.SeqFwdIdeal.nD Cert.SeqFwdIdeal.τ).loc Cert.SeqFwdIdeal.main_arg5)
          ∧ r.2.mem ((c.tc : Thread Cert.SeqFwdIdeal.nD Cert.SeqFwdIdeal.τ).loc Cert.SeqFwdIdeal.main_arg6) = m ((c.tc : Thread Cert.SeqFwdIdeal.nD Cert.SeqFwdIdeal.τ).loc Cert.SeqFwdIdeal.main_arg6))
      ∧ θ_run (Cert.SeqFwdRefIdeal.defs (F := Ideal)) (onTc (τ := Cert.SeqFwdRefIdeal.τ) (Cert.SeqFwdRefIdeal.main (F := Ideal))) ⟨m', fun _ => 0, g'⟩ (fun r => ∀ c : Dev Cert.SeqFwdRefIdeal.nD,
          r.2.mem ((c.tc : Thread Cert.SeqFwdRefIdeal.nD Cert.SeqFwdRefIdeal.τ).loc Cert.SeqFwdRefIdeal.main_v338) = v0 c
          ∧ r.2.mem ((c.tc : Thread Cert.SeqFwdRefIdeal.nD Cert.SeqFwdRefIdeal.τ).loc Cert.SeqFwdRefIdeal.main_v235) = v1 c
          ∧ r.2.mem ((c.tc : Thread Cert.SeqFwdRefIdeal.nD Cert.SeqFwdRefIdeal.τ).loc Cert.SeqFwdRefIdeal.main_arg0) = m' ((c.tc : Thread Cert.SeqFwdRefIdeal.nD Cert.SeqFwdRefIdeal.τ).loc Cert.SeqFwdRefIdeal.main_arg0)
          ∧ r.2.mem ((c.tc : Thread Cert.SeqFwdRefIdeal.nD Cert.SeqFwdRefIdeal.τ).loc Cert.SeqFwdRefIdeal.main_arg1) = m' ((c.tc : Thread Cert.SeqFwdRefIdeal.nD Cert.SeqFwdRefIdeal.τ).loc Cert.SeqFwdRefIdeal.main_arg1)
          ∧ r.2.mem ((c.tc : Thread Cert.SeqFwdRefIdeal.nD Cert.SeqFwdRefIdeal.τ).loc Cert.SeqFwdRefIdeal.main_arg2) = m' ((c.tc : Thread Cert.SeqFwdRefIdeal.nD Cert.SeqFwdRefIdeal.τ).loc Cert.SeqFwdRefIdeal.main_arg2)
          ∧ r.2.mem ((c.tc : Thread Cert.SeqFwdRefIdeal.nD Cert.SeqFwdRefIdeal.τ).loc Cert.SeqFwdRefIdeal.main_arg3) = m' ((c.tc : Thread Cert.SeqFwdRefIdeal.nD Cert.SeqFwdRefIdeal.τ).loc Cert.SeqFwdRefIdeal.main_arg3)
          ∧ r.2.mem ((c.tc : Thread Cert.SeqFwdRefIdeal.nD Cert.SeqFwdRefIdeal.τ).loc Cert.SeqFwdRefIdeal.main_arg4) = m' ((c.tc : Thread Cert.SeqFwdRefIdeal.nD Cert.SeqFwdRefIdeal.τ).loc Cert.SeqFwdRefIdeal.main_arg4)
          ∧ r.2.mem ((c.tc : Thread Cert.SeqFwdRefIdeal.nD Cert.SeqFwdRefIdeal.τ).loc Cert.SeqFwdRefIdeal.main_arg5) = m' ((c.tc : Thread Cert.SeqFwdRefIdeal.nD Cert.SeqFwdRefIdeal.τ).loc Cert.SeqFwdRefIdeal.main_arg5)
          ∧ r.2.mem ((c.tc : Thread Cert.SeqFwdRefIdeal.nD Cert.SeqFwdRefIdeal.τ).loc Cert.SeqFwdRefIdeal.main_arg6) = m' ((c.tc : Thread Cert.SeqFwdRefIdeal.nD Cert.SeqFwdRefIdeal.τ).loc Cert.SeqFwdRefIdeal.main_arg6))

def preserves_PackSmall_PackSmallIdeal : Prop :=
  True

def algebraic_PackSmallIdeal_PackSmallRefIdeal [hPackSmallIdeal : Cert.PackSmallIdeal.Facts] [hPackSmallRefIdeal : Cert.PackSmallRefIdeal.Facts] : Prop :=
  ∀ (m : (ℓ : Loc Cert.PackSmallIdeal.nD Cert.PackSmallIdeal.τ Cert.PackSmallIdeal.sig) → Buf (Elt Ideal) ℓ) (g : Dev Cert.PackSmallIdeal.nD → PrngReg)
    (m' : (ℓ : Loc Cert.PackSmallRefIdeal.nD Cert.PackSmallRefIdeal.τ Cert.PackSmallRefIdeal.sig) → Buf (Elt Ideal) ℓ) (g' : Dev Cert.PackSmallRefIdeal.nD → PrngReg), Pre_PackSmallIdeal m →
    (∀ c : Dev Cert.PackSmallIdeal.nD,
      m' ((c.tc : Thread Cert.PackSmallRefIdeal.nD Cert.PackSmallRefIdeal.τ).loc Cert.PackSmallRefIdeal.main_arg0) = m ((c.tc : Thread Cert.PackSmallIdeal.nD Cert.PackSmallIdeal.τ).loc Cert.PackSmallIdeal.main_arg0)
      ∧ m' ((c.tc : Thread Cert.PackSmallRefIdeal.nD Cert.PackSmallRefIdeal.τ).loc Cert.PackSmallRefIdeal.main_arg1) = m ((c.tc : Thread Cert.PackSmallIdeal.nD Cert.PackSmallIdeal.τ).loc Cert.PackSmallIdeal.main_arg1)
      ∧ m' ((c.tc : Thread Cert.PackSmallRefIdeal.nD Cert.PackSmallRefIdeal.τ).loc Cert.PackSmallRefIdeal.main_arg2) = m ((c.tc : Thread Cert.PackSmallIdeal.nD Cert.PackSmallIdeal.τ).loc Cert.PackSmallIdeal.main_arg2)
      ∧ m' ((c.tc : Thread Cert.PackSmallRefIdeal.nD Cert.PackSmallRefIdeal.τ).loc Cert.PackSmallRefIdeal.main_arg3) = m ((c.tc : Thread Cert.PackSmallIdeal.nD Cert.PackSmallIdeal.τ).loc Cert.PackSmallIdeal.main_arg3)
      ∧ m' ((c.tc : Thread Cert.PackSmallRefIdeal.nD Cert.PackSmallRefIdeal.τ).loc Cert.PackSmallRefIdeal.main_arg4) = m ((c.tc : Thread Cert.PackSmallIdeal.nD Cert.PackSmallIdeal.τ).loc Cert.PackSmallIdeal.main_arg4)
      ∧ m' ((c.tc : Thread Cert.PackSmallRefIdeal.nD Cert.PackSmallRefIdeal.τ).loc Cert.PackSmallRefIdeal.main_arg5) = m ((c.tc : Thread Cert.PackSmallIdeal.nD Cert.PackSmallIdeal.τ).loc Cert.PackSmallIdeal.main_arg5)
      ∧ m' ((c.tc : Thread Cert.PackSmallRefIdeal.nD Cert.PackSmallRefIdeal.τ).loc Cert.PackSmallRefIdeal.main_arg6) = m ((c.tc : Thread Cert.PackSmallIdeal.nD Cert.PackSmallIdeal.τ).loc Cert.PackSmallIdeal.main_arg6)
      ∧ m' ((c.tc : Thread Cert.PackSmallRefIdeal.nD Cert.PackSmallRefIdeal.τ).loc Cert.PackSmallRefIdeal.main_arg7) = m ((c.tc : Thread Cert.PackSmallIdeal.nD Cert.PackSmallIdeal.τ).loc Cert.PackSmallIdeal.main_arg7)
      ∧ m' ((c.tc : Thread Cert.PackSmallRefIdeal.nD Cert.PackSmallRefIdeal.τ).loc Cert.PackSmallRefIdeal.main_arg8) = m ((c.tc : Thread Cert.PackSmallIdeal.nD Cert.PackSmallIdeal.τ).loc Cert.PackSmallIdeal.main_arg8)) →
    ∃ (v0 : (c : Dev Cert.PackSmallIdeal.nD) → Buf (Elt Ideal) ((c.tc : Thread Cert.PackSmallIdeal.nD Cert.PackSmallIdeal.τ).loc Cert.PackSmallIdeal.main_v0)),
      θ_run (Cert.PackSmallIdeal.defs (F := Ideal)) (onTc (τ := Cert.PackSmallIdeal.τ) (Cert.PackSmallIdeal.main (F := Ideal))) ⟨m, fun _ => 0, g⟩ (fun r => ∀ c : Dev Cert.PackSmallIdeal.nD,
          r.2.mem ((c.tc : Thread Cert.PackSmallIdeal.nD Cert.PackSmallIdeal.τ).loc Cert.PackSmallIdeal.main_v0) = v0 c
          ∧ r.2.mem ((c.tc : Thread Cert.PackSmallIdeal.nD Cert.PackSmallIdeal.τ).loc Cert.PackSmallIdeal.main_arg0) = m ((c.tc : Thread Cert.PackSmallIdeal.nD Cert.PackSmallIdeal.τ).loc Cert.PackSmallIdeal.main_arg0)
          ∧ r.2.mem ((c.tc : Thread Cert.PackSmallIdeal.nD Cert.PackSmallIdeal.τ).loc Cert.PackSmallIdeal.main_arg1) = m ((c.tc : Thread Cert.PackSmallIdeal.nD Cert.PackSmallIdeal.τ).loc Cert.PackSmallIdeal.main_arg1)
          ∧ r.2.mem ((c.tc : Thread Cert.PackSmallIdeal.nD Cert.PackSmallIdeal.τ).loc Cert.PackSmallIdeal.main_arg2) = m ((c.tc : Thread Cert.PackSmallIdeal.nD Cert.PackSmallIdeal.τ).loc Cert.PackSmallIdeal.main_arg2)
          ∧ r.2.mem ((c.tc : Thread Cert.PackSmallIdeal.nD Cert.PackSmallIdeal.τ).loc Cert.PackSmallIdeal.main_arg3) = m ((c.tc : Thread Cert.PackSmallIdeal.nD Cert.PackSmallIdeal.τ).loc Cert.PackSmallIdeal.main_arg3)
          ∧ r.2.mem ((c.tc : Thread Cert.PackSmallIdeal.nD Cert.PackSmallIdeal.τ).loc Cert.PackSmallIdeal.main_arg4) = m ((c.tc : Thread Cert.PackSmallIdeal.nD Cert.PackSmallIdeal.τ).loc Cert.PackSmallIdeal.main_arg4)
          ∧ r.2.mem ((c.tc : Thread Cert.PackSmallIdeal.nD Cert.PackSmallIdeal.τ).loc Cert.PackSmallIdeal.main_arg5) = m ((c.tc : Thread Cert.PackSmallIdeal.nD Cert.PackSmallIdeal.τ).loc Cert.PackSmallIdeal.main_arg5)
          ∧ r.2.mem ((c.tc : Thread Cert.PackSmallIdeal.nD Cert.PackSmallIdeal.τ).loc Cert.PackSmallIdeal.main_arg6) = m ((c.tc : Thread Cert.PackSmallIdeal.nD Cert.PackSmallIdeal.τ).loc Cert.PackSmallIdeal.main_arg6)
          ∧ r.2.mem ((c.tc : Thread Cert.PackSmallIdeal.nD Cert.PackSmallIdeal.τ).loc Cert.PackSmallIdeal.main_arg7) = m ((c.tc : Thread Cert.PackSmallIdeal.nD Cert.PackSmallIdeal.τ).loc Cert.PackSmallIdeal.main_arg7)
          ∧ r.2.mem ((c.tc : Thread Cert.PackSmallIdeal.nD Cert.PackSmallIdeal.τ).loc Cert.PackSmallIdeal.main_arg8) = m ((c.tc : Thread Cert.PackSmallIdeal.nD Cert.PackSmallIdeal.τ).loc Cert.PackSmallIdeal.main_arg8))
      ∧ θ_run (Cert.PackSmallRefIdeal.defs (F := Ideal)) (onTc (τ := Cert.PackSmallRefIdeal.τ) (Cert.PackSmallRefIdeal.main (F := Ideal))) ⟨m', fun _ => 0, g'⟩ (fun r => ∀ c : Dev Cert.PackSmallRefIdeal.nD,
          r.2.mem ((c.tc : Thread Cert.PackSmallRefIdeal.nD Cert.PackSmallRefIdeal.τ).loc Cert.PackSmallRefIdeal.main_v8) = v0 c
          ∧ r.2.mem ((c.tc : Thread Cert.PackSmallRefIdeal.nD Cert.PackSmallRefIdeal.τ).loc Cert.PackSmallRefIdeal.main_arg0) = m' ((c.tc : Thread Cert.PackSmallRefIdeal.nD Cert.PackSmallRefIdeal.τ).loc Cert.PackSmallRefIdeal.main_arg0)
          ∧ r.2.mem ((c.tc : Thread Cert.PackSmallRefIdeal.nD Cert.PackSmallRefIdeal.τ).loc Cert.PackSmallRefIdeal.main_arg1) = m' ((c.tc : Thread Cert.PackSmallRefIdeal.nD Cert.PackSmallRefIdeal.τ).loc Cert.PackSmallRefIdeal.main_arg1)
          ∧ r.2.mem ((c.tc : Thread Cert.PackSmallRefIdeal.nD Cert.PackSmallRefIdeal.τ).loc Cert.PackSmallRefIdeal.main_arg2) = m' ((c.tc : Thread Cert.PackSmallRefIdeal.nD Cert.PackSmallRefIdeal.τ).loc Cert.PackSmallRefIdeal.main_arg2)
          ∧ r.2.mem ((c.tc : Thread Cert.PackSmallRefIdeal.nD Cert.PackSmallRefIdeal.τ).loc Cert.PackSmallRefIdeal.main_arg3) = m' ((c.tc : Thread Cert.PackSmallRefIdeal.nD Cert.PackSmallRefIdeal.τ).loc Cert.PackSmallRefIdeal.main_arg3)
          ∧ r.2.mem ((c.tc : Thread Cert.PackSmallRefIdeal.nD Cert.PackSmallRefIdeal.τ).loc Cert.PackSmallRefIdeal.main_arg4) = m' ((c.tc : Thread Cert.PackSmallRefIdeal.nD Cert.PackSmallRefIdeal.τ).loc Cert.PackSmallRefIdeal.main_arg4)
          ∧ r.2.mem ((c.tc : Thread Cert.PackSmallRefIdeal.nD Cert.PackSmallRefIdeal.τ).loc Cert.PackSmallRefIdeal.main_arg5) = m' ((c.tc : Thread Cert.PackSmallRefIdeal.nD Cert.PackSmallRefIdeal.τ).loc Cert.PackSmallRefIdeal.main_arg5)
          ∧ r.2.mem ((c.tc : Thread Cert.PackSmallRefIdeal.nD Cert.PackSmallRefIdeal.τ).loc Cert.PackSmallRefIdeal.main_arg6) = m' ((c.tc : Thread Cert.PackSmallRefIdeal.nD Cert.PackSmallRefIdeal.τ).loc Cert.PackSmallRefIdeal.main_arg6)
          ∧ r.2.mem ((c.tc : Thread Cert.PackSmallRefIdeal.nD Cert.PackSmallRefIdeal.τ).loc Cert.PackSmallRefIdeal.main_arg7) = m' ((c.tc : Thread Cert.PackSmallRefIdeal.nD Cert.PackSmallRefIdeal.τ).loc Cert.PackSmallRefIdeal.main_arg7)
          ∧ r.2.mem ((c.tc : Thread Cert.PackSmallRefIdeal.nD Cert.PackSmallRefIdeal.τ).loc Cert.PackSmallRefIdeal.main_arg8) = m' ((c.tc : Thread Cert.PackSmallRefIdeal.nD Cert.PackSmallRefIdeal.τ).loc Cert.PackSmallRefIdeal.main_arg8))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)
      ∧ m' ((c.tc : Thread Cert.SumSmallRefIdeal.nD Cert.SumSmallRefIdeal.τ).loc Cert.SumSmallRefIdeal.main_arg2) = m ((c.tc : Thread Cert.SumSmallIdeal.nD Cert.SumSmallIdeal.τ).loc Cert.SumSmallIdeal.main_arg2)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v1) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1)
          ∧ r.2.mem ((c.tc : Thread Cert.SumSmallRefIdeal.nD Cert.SumSmallRefIdeal.τ).loc Cert.SumSmallRefIdeal.main_arg2) = m' ((c.tc : Thread Cert.SumSmallRefIdeal.nD Cert.SumSmallRefIdeal.τ).loc Cert.SumSmallRefIdeal.main_arg2))

def Claim : Prop :=
  ∃ (hInBwd : Cert.InBwd.Facts) (hInBwdIdeal : Cert.InBwdIdeal.Facts) (hInRefIdeal : Cert.InRefIdeal.Facts) (hGateBwd : Cert.GateBwd.Facts) (hGateBwdIdeal : Cert.GateBwdIdeal.Facts) (hGateRefIdeal : Cert.GateRefIdeal.Facts) (hFfnBwd : Cert.FfnBwd.Facts) (hFfnBwdIdeal : Cert.FfnBwdIdeal.Facts) (hFfnRefIdeal : Cert.FfnRefIdeal.Facts) (hWDown : Cert.WDown.Facts) (hWDownIdeal : Cert.WDownIdeal.Facts) (hWDownRefIdeal : Cert.WDownRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hGateUp : Cert.GateUp.Facts) (hGateUpIdeal : Cert.GateUpIdeal.Facts) (hGateUpRefIdeal : Cert.GateUpRefIdeal.Facts) (hDownLoss : Cert.DownLoss.Facts) (hDownLossIdeal : Cert.DownLossIdeal.Facts) (hDownLossRefIdeal : Cert.DownLossRefIdeal.Facts) (hWOut : Cert.WOut.Facts) (hWOutIdeal : Cert.WOutIdeal.Facts) (hWOutRefIdeal : Cert.WOutRefIdeal.Facts) (hWIn : Cert.WIn.Facts) (hWInIdeal : Cert.WInIdeal.Facts) (hWInRefIdeal : Cert.WInRefIdeal.Facts) (hAdamIn : Cert.AdamIn.Facts) (hAdamInIdeal : Cert.AdamInIdeal.Facts) (hAdamInRefIdeal : Cert.AdamInRefIdeal.Facts) (hSeqFwd : Cert.SeqFwd.Facts) (hSeqFwdIdeal : Cert.SeqFwdIdeal.Facts) (hSeqFwdRefIdeal : Cert.SeqFwdRefIdeal.Facts) (hPackSmall : Cert.PackSmall.Facts) (hPackSmallIdeal : Cert.PackSmallIdeal.Facts) (hPackSmallRefIdeal : Cert.PackSmallRefIdeal.Facts) (hSumSmall : Cert.SumSmall.Facts) (hSumSmallIdeal : Cert.SumSmallIdeal.Facts) (hSumSmallRefIdeal : Cert.SumSmallRefIdeal.Facts) (hPre_pre_gate : Cert.Pre_pre_gate.Facts) (hPre_pre_gu : Cert.Pre_pre_gu.Facts) (hPre_pre_seq : Cert.Pre_pre_seq.Facts),
    quiescent_InBwd (hInBwd := hInBwd)
    ∧ quiescent_InBwdIdeal (hInBwdIdeal := hInBwdIdeal)
    ∧ quiescent_InRefIdeal (hInRefIdeal := hInRefIdeal)
    ∧ quiescent_GateBwd (hGateBwd := hGateBwd)
    ∧ quiescent_GateBwdIdeal (hGateBwdIdeal := hGateBwdIdeal)
    ∧ quiescent_GateBwdIdeal_pre_pre_gate (hGateBwdIdeal := hGateBwdIdeal) (hPre_pre_gate := hPre_pre_gate)
    ∧ quiescent_GateRefIdeal (hGateRefIdeal := hGateRefIdeal)
    ∧ quiescent_GateRefIdeal_pre_pre_gate (hGateRefIdeal := hGateRefIdeal) (hPre_pre_gate := hPre_pre_gate)
    ∧ quiescent_FfnBwd (hFfnBwd := hFfnBwd)
    ∧ quiescent_FfnBwdIdeal (hFfnBwdIdeal := hFfnBwdIdeal)
    ∧ quiescent_FfnRefIdeal (hFfnRefIdeal := hFfnRefIdeal)
    ∧ quiescent_WDown (hWDown := hWDown)
    ∧ quiescent_WDownIdeal (hWDownIdeal := hWDownIdeal)
    ∧ quiescent_WDownRefIdeal (hWDownRefIdeal := hWDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_GateUp (hGateUp := hGateUp)
    ∧ quiescent_GateUpIdeal (hGateUpIdeal := hGateUpIdeal)
    ∧ quiescent_GateUpIdeal_pre_pre_gu (hGateUpIdeal := hGateUpIdeal) (hPre_pre_gu := hPre_pre_gu)
    ∧ quiescent_GateUpRefIdeal (hGateUpRefIdeal := hGateUpRefIdeal)
    ∧ quiescent_GateUpRefIdeal_pre_pre_gu (hGateUpRefIdeal := hGateUpRefIdeal) (hPre_pre_gu := hPre_pre_gu)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_WOut (hWOut := hWOut)
    ∧ quiescent_WOutIdeal (hWOutIdeal := hWOutIdeal)
    ∧ quiescent_WOutRefIdeal (hWOutRefIdeal := hWOutRefIdeal)
    ∧ quiescent_WIn (hWIn := hWIn)
    ∧ quiescent_WInIdeal (hWInIdeal := hWInIdeal)
    ∧ quiescent_WInRefIdeal (hWInRefIdeal := hWInRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_SeqFwd (hSeqFwd := hSeqFwd)
    ∧ quiescent_SeqFwdIdeal (hSeqFwdIdeal := hSeqFwdIdeal)
    ∧ quiescent_SeqFwdIdeal_pre_pre_seq (hSeqFwdIdeal := hSeqFwdIdeal) (hPre_pre_seq := hPre_pre_seq)
    ∧ quiescent_SeqFwdRefIdeal (hSeqFwdRefIdeal := hSeqFwdRefIdeal)
    ∧ quiescent_SeqFwdRefIdeal_pre_pre_seq (hSeqFwdRefIdeal := hSeqFwdRefIdeal) (hPre_pre_seq := hPre_pre_seq)
    ∧ quiescent_PackSmall (hPackSmall := hPackSmall)
    ∧ quiescent_PackSmallIdeal (hPackSmallIdeal := hPackSmallIdeal)
    ∧ quiescent_PackSmallRefIdeal (hPackSmallRefIdeal := hPackSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_InBwd_InBwdIdeal
    ∧ algebraic_InBwdIdeal_InRefIdeal (hInBwdIdeal := hInBwdIdeal) (hInRefIdeal := hInRefIdeal)
    ∧ preserves_GateBwd_GateBwdIdeal
    ∧ algebraic_GateBwdIdeal_GateRefIdeal_pre_pre_gate (hGateBwdIdeal := hGateBwdIdeal) (hGateRefIdeal := hGateRefIdeal) (hPre_pre_gate := hPre_pre_gate)
    ∧ preserves_FfnBwd_FfnBwdIdeal
    ∧ algebraic_FfnBwdIdeal_FfnRefIdeal (hFfnBwdIdeal := hFfnBwdIdeal) (hFfnRefIdeal := hFfnRefIdeal)
    ∧ preserves_WDown_WDownIdeal
    ∧ algebraic_WDownIdeal_WDownRefIdeal (hWDownIdeal := hWDownIdeal) (hWDownRefIdeal := hWDownRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_GateUp_GateUpIdeal
    ∧ algebraic_GateUpIdeal_GateUpRefIdeal_pre_pre_gu (hGateUpIdeal := hGateUpIdeal) (hGateUpRefIdeal := hGateUpRefIdeal) (hPre_pre_gu := hPre_pre_gu)
    ∧ preserves_DownLoss_DownLossIdeal
    ∧ algebraic_DownLossIdeal_DownLossRefIdeal (hDownLossIdeal := hDownLossIdeal) (hDownLossRefIdeal := hDownLossRefIdeal)
    ∧ preserves_WOut_WOutIdeal
    ∧ algebraic_WOutIdeal_WOutRefIdeal (hWOutIdeal := hWOutIdeal) (hWOutRefIdeal := hWOutRefIdeal)
    ∧ preserves_WIn_WInIdeal
    ∧ algebraic_WInIdeal_WInRefIdeal (hWInIdeal := hWInIdeal) (hWInRefIdeal := hWInRefIdeal)
    ∧ preserves_AdamIn_AdamInIdeal
    ∧ algebraic_AdamInIdeal_AdamInRefIdeal (hAdamInIdeal := hAdamInIdeal) (hAdamInRefIdeal := hAdamInRefIdeal)
    ∧ preserves_SeqFwd_SeqFwdIdeal
    ∧ algebraic_SeqFwdIdeal_SeqFwdRefIdeal_pre_pre_seq (hSeqFwdIdeal := hSeqFwdIdeal) (hSeqFwdRefIdeal := hSeqFwdRefIdeal) (hPre_pre_seq := hPre_pre_seq)
    ∧ preserves_PackSmall_PackSmallIdeal
    ∧ algebraic_PackSmallIdeal_PackSmallRefIdeal (hPackSmallIdeal := hPackSmallIdeal) (hPackSmallRefIdeal := hPackSmallRefIdeal)
    ∧ preserves_SumSmall_SumSmallIdeal
    ∧ algebraic_SumSmallIdeal_SumSmallRefIdeal (hSumSmallIdeal := hSumSmallIdeal) (hSumSmallRefIdeal := hSumSmallRefIdeal)
-- ==== Pre_pre_gate.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .bf16) (main_arg1 : FVec F S2816x1024 .bf16) (main_arg2 : FVec F S4096x2816 .f32) (main_arg3 : FVec F S4096x2816 .f32) : IVec S4096x1024 1 × IVec S2816x1024 1 × IVec S4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x2816 .f32 := Host.absf main_arg3
  let main_cst_1 : FVec F S_ .f32 := constant S_ .f32 0x7F800000#32
  let main_v9 : FVec F S4096x2816 .f32 := broadcastInDim S4096x2816 ![] bcast_S_S4096x2816 main_cst_1
  let main_v10 : IVec S4096x2816 1 := cmpf .olt main_v8 main_v9
  (main_v3, main_v7, main_v10)
-- ==== Pre_pre_gu.lean ====
abbrev S4096x1024 : Shape := ⟨2, ![4096, 1024]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)

variable [Facts]

def fn {F : FTy → Type} [FloatOps F] (main_arg0 : FVec F S4096x1024 .bf16) (main_arg1 : FVec F S2816x1024 .bf16) (main_arg2 : FVec F S2816x1024 .bf16) : IVec S4096x1024 1 × IVec S2816x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg2
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  (main_v3, main_v7)
-- ==== Pre_pre_seq.lean ====
abbrev S4096x1536 : Shape := ⟨2, ![4096, 1536]⟩
abbrev S4x31x1x128 : Shape := ⟨4, ![4, 31, 1, 128]⟩
abbrev S1x512 : Shape := ⟨2, ![1, 512]⟩
abbrev S4x128x128 : Shape := ⟨3, ![4, 128, 128]⟩
abbrev S4096x512 : Shape := ⟨2, ![4096, 512]⟩
abbrev S_ : Shape := ⟨0, ![]⟩

class Facts : Prop where
  slices_S4096x1536_S4096x512_0_1024 : S4096x1536.Slices ![0, 1024] S4096x512
  bcast_S_S4096x512 : S_.BroadcastsInDim S4096x512 (![] : Fin 0 → Fin S4096x512.rank)

variable [Facts]

def fn {F : FTy → Type} [FloatOps F] (main_arg0 : FVec F S4096x1536 .f32) (main_arg1 : FVec F S4x31x1x128 .f32) (main_arg2 : FVec F S1x512 .f32) (main_arg3 : FVec F S1x512 .f32) (main_arg4 : FVec F S1x512 .f32) (main_arg5 : FVec F S4x128x128 .f32) (main_arg6 : FVec F S1x512 .f32) : IVec S4096x512 1 :=
  let main_v0 : FVec F S4096x512 .f32 := (extractStridedSlice S4096x512 ![0, 1024] · slices_S4096x1536_S4096x512_0_1024) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  main_v3
-- ==== InBwd.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S256x1536 : Shape := ⟨2, ![256, 1536]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S256x1536, .bf16⟩
  | .local _ .vmem, ⟨1, _⟩ => ⟨S256x1536, .bf16⟩
  | .local _ .vmem, ⟨2, _⟩ => ⟨S1536x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v34 : BitVec 32 := Scalar.extui v31
  let c0_i32_17 : BitVec 32 := 0#32
  let v35 : BitVec 1 := Scalar.cmpi .ne v34 c0_i32_17
  v35

def k0_cond2 (i : grid0.Coords) : BitVec 1 :=
  let arg0 : BitVec 32 := BitVec.ofNat 32 (i 0).val
  let c0_i32 : BitVec 32 := 0#32
  let v31 : BitVec 1 := Scalar.cmpi .eq arg0 c0_i32
  let v_true : BitVec 1 := 1#1
  let v36 : BitVec 1 := Scalar.xori v31 v_true
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InRefIdeal.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S1024x1536 : Shape := ⟨2, ![1024, 1536]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1536x1024, .f32⟩
  | .hbm, ⟨6, _⟩ => ⟨S1024x1536, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1536, .f32⟩
  | .hbm, ⟨29, _⟩ => ⟨S4096x1536, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== GateBwd.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩
abbrev S1024x1024 : Shape := ⟨2, ![1024, 1024]⟩
abbrev S1408x1024 : Shape := ⟨2, ![1408, 1024]⟩
abbrev S1024x1408 : Shape := ⟨2, ![1024, 1408]⟩
abbrev S512x1024 : Shape := ⟨2, ![512, 1024]⟩
abbrev S1024x512 : Shape := ⟨2, ![1024, 512]⟩
abbrev S384x1024 : Shape := ⟨2, ![384, 1024]⟩
abbrev S1024x384 : Shape := ⟨2, ![1024, 384]⟩

abbrev nBuf : Space → Nat
  | .hbm => 25
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | .hbm, ⟨22, _⟩ => ⟨S4096x2816, .bf16⟩
  | .hbm, ⟨23, _⟩ => ⟨S4096x2816, .bf16⟩
  | .hbm, ⟨24, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .hbm, ⟨3, _⟩ => ⟨S4096x2816, .f32⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .bf16⟩
  | .hbm, ⟨29, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== FfnBwd.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x1024 : Shape := ⟨2, ![1024, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1024x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v43 : BitVec 32 := Scalar.extui v40
  let c0_i32_29 : BitVec 32 := 0#32
  let v44 : BitVec 1 := Scalar.cmpi .ne v43 c0_i32_29
  v44

def k0_cond2 (i : grid0.Coords) : BitVec 1 :=
  let arg0 : BitVec 32 := BitVec.ofNat 32 (i 0).val
  let c0_i32 : BitVec 32 := 0#32
  let v40 : BitVec 1 := Scalar.cmpi .eq arg0 c0_i32
  let v_true : BitVec 1 := 1#1
  let v45 : BitVec 1 := Scalar.xori v40 v_true
  let v46 : BitVec 32 := Scalar.extui v45
  let c0_i32_30 : BitVec 32 := 0#32
  let v47 : BitVec 1 := Scalar.cmpi .ne v46 c0_i32_30
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x1024 : Shape := ⟨2, ![1024, 1024]⟩
abbrev S1024x2816 : Shape := ⟨2, ![1024, 2816]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1024x1024, .bf16⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S1024x2816, .f32⟩
  | .hbm, ⟨12, _⟩ => ⟨S1024x1024, .f32⟩
  | .hbm, ⟨13, _⟩ => ⟨S1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== WDown.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProj.lean ====
abbrev S4096x1024 : Shape := ⟨2, ![4096, 1024]⟩
abbrev S1x1024 : Shape := ⟨2, ![1, 1024]⟩
abbrev S1536x1024 : Shape := ⟨2, ![1536, 1024]⟩
abbrev S1x1536 : Shape := ⟨2, ![1, 1536]⟩
abbrev S4096x1536 : Shape := ⟨2, ![4096, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1536x1024, .bf16⟩
  | .hbm, ⟨3, _⟩ => ⟨S1x1536, .f32⟩
  | .hbm, ⟨4, _⟩ => ⟨S4096x1536, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1536x1024, .bf16⟩
  | .local _ .vmem, ⟨4, _⟩ => ⟨S1x1536, .f32⟩
  | .local _ .vmem, ⟨5, _⟩ => ⟨S512x1536, .f32⟩
  | .local _ .vmem, ⟨6, _⟩ => ⟨S512x1536, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjRefIdeal.lean ====
abbrev S4096x1024 : Shape := ⟨2, ![4096, 1024]⟩
abbrev S1x1024 : Shape := ⟨2, ![1, 1024]⟩
abbrev S1536x1024 : Shape := ⟨2, ![1536, 1024]⟩
abbrev S1x1536 : Shape := ⟨2, ![1, 1536]⟩
abbrev S1024x1536 : Shape := ⟨2, ![1024, 1536]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S1536 : Shape := ⟨1, ![1536]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1536x1024, .bf16⟩
  | .hbm, ⟨3, _⟩ => ⟨S1x1536, .f32⟩
  | .hbm, ⟨4, _⟩ => ⟨S1536x1024, .f32⟩
  | .hbm, ⟨5, _⟩ => ⟨S1024x1536, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1536, .f32⟩
  | .hbm, ⟨24, _⟩ => ⟨S1536, .f32⟩
  | .hbm, ⟨25, _⟩ => ⟨S1x1536, .f32⟩
  | .hbm, ⟨26, _⟩ => ⟨S4096x1536, .f32⟩
  | .hbm, ⟨27, _⟩ => ⟨S4096x1536, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== GateUp.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩
abbrev S512x1024 : Shape := ⟨2, ![512, 1024]⟩
abbrev S1024x512 : Shape := ⟨2, ![1024, 512]⟩
abbrev S384x1024 : Shape := ⟨2, ![384, 1024]⟩
abbrev S1024x384 : Shape := ⟨2, ![1024, 384]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .bf16⟩
  | .hbm, ⟨28, _⟩ => ⟨S4096x2816, .bf16⟩
  | .hbm, ⟨29, _⟩ => ⟨S4096x2816, .f32⟩
  | .hbm, ⟨30, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== DownLoss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x128, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v28 : BitVec 32 := Scalar.extui v20
  let c0_i32_14 : BitVec 32 := 0#32
  let v29 : BitVec 1 := Scalar.cmpi .ne v28 c0_i32_14
  v29

def k0_cond2 (i : grid0.Coords) : BitVec 1 :=
  let arg0 : BitVec 32 := BitVec.ofNat 32 (i 0).val
  let c0_i32 : BitVec 32 := 0#32
  let v20 : BitVec 1 := Scalar.cmpi .eq arg0 c0_i32
  let v_true : BitVec 1 := 1#1
  let v30 : BitVec 1 := Scalar.xori v20 v_true
  let v31 : BitVec 32 := Scalar.extui v30
  let c0_i32_15 : BitVec 32 := 0#32
  let v32 : BitVec 1 := Scalar.cmpi .ne v31 c0_i32_15
  v32

def k0_cond3 (i : grid0.Coords) : BitVec 1 :=
  let arg0 : BitVec 32 := BitVec.ofNat 32 (i 0).val
  let c0_i32_26 : BitVec 32 := 0#32
  let v61 : BitVec 1 := Scalar.cmpi .eq arg0 c0_i32_26
  let v64 : BitVec 32 := Scalar.extui v61
  let c0_i32_28 : BitVec 32 := 0#32
  let v65 : BitVec 1 := Scalar.cmpi .ne v64 c0_i32_28
  v65

def k0_cond4 (i : grid0.Coords) : BitVec 1 :=
  let arg0 : BitVec 32 := BitVec.ofNat 32 (i 0).val
  let c0_i32_26 : BitVec 32 := 0#32
  let v61 : BitVec 1 := Scalar.cmpi .eq arg0 c0_i32_26
  let true_29 : BitVec 1 := 1#1
  let v66 : BitVec 1 := Scalar.xori v61 true_29
  let v67 : BitVec 32 := Scalar.extui v66
  let c0_i32_30 : BitVec 32 := 0#32
  let v68 : BitVec 1 := Scalar.cmpi .ne v67 c0_i32_30
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownLossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S4096x1024, .bf16⟩
  | .hbm, ⟨80, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== WOut.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WIn.lean ====
abbrev S4096x1536 : Shape := ⟨2, ![4096, 1536]⟩
abbrev S4096x1024 : Shape := ⟨2, ![4096, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WInRefIdeal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1536, .f32⟩
  | .hbm, ⟨3, _⟩ => ⟨S4096x1024, .f32⟩
  | .hbm, ⟨4, _⟩ => ⟨S_, .f32⟩
  | .hbm, ⟨5, _⟩ => ⟨S1536x1024, .f32⟩
  | .hbm, ⟨6, _⟩ => ⟨S4096x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamIn.lean ====
abbrev S1024x384 : Shape := ⟨2, ![1024, 384]⟩
abbrev S384x1024 : Shape := ⟨2, ![384, 1024]⟩
abbrev S256x384 : Shape := ⟨2, ![256, 384]⟩
abbrev S384x256 : Shape := ⟨2, ![384, 256]⟩

abbrev nBuf : Space → Nat
  | .hbm => 9
  | .vmem => 18
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S384x1024, .f32⟩
  | .hbm, ⟨4, _⟩ => ⟨S384x1024, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S384x256, .f32⟩
  | .local _ .vmem, ⟨7, _⟩ => ⟨S384x256, .f32⟩
  | .local _ .vmem, ⟨8, _⟩ => ⟨S384x256, .f32⟩
  | .local _ .vmem, ⟨9, _⟩ => ⟨S384x256, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .f32⟩
  | .local _ .vmem, ⟨17, _⟩ => ⟨S256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S1024x384 : Shape := ⟨2, ![1024, 384]⟩
abbrev S384x1024 : Shape := ⟨2, ![384, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SeqFwd.lean ====
abbrev S4096x1536 : Shape := ⟨2, ![4096, 1536]⟩
abbrev S4x31x1x128 : Shape := ⟨4, ![4, 31, 1, 128]⟩
abbrev S1x512 : Shape := ⟨2, ![1, 512]⟩
abbrev S4x128x128 : Shape := ⟨3, ![4, 128, 128]⟩
abbrev S4096x1024 : Shape := ⟨2, ![4096, 1024]⟩
abbrev S4096x512 : Shape := ⟨2, ![4096, 512]⟩
abbrev S512x1536 : Shape := ⟨2, ![512, 1536]⟩
abbrev S32x1536 : Shape := ⟨2, ![32, 1536]⟩
abbrev S512x1024 : Shape := ⟨2, ![512, 1024]⟩
abbrev S512x512 : Shape := ⟨2, ![512, 512]⟩
abbrev S8x544x512 : Shape := ⟨3, ![8, 544, 512]⟩
abbrev S544x512 : Shape := ⟨2, ![544, 512]⟩
abbrev S32x512 : Shape := ⟨2, ![32, 512]⟩
abbrev S1x32x512 : Shape := ⟨3, ![1, 32, 512]⟩
abbrev S1x512x512 : Shape := ⟨3, ![1, 512, 512]⟩
abbrev S1x536x512 : Shape := ⟨3, ![1, 536, 512]⟩
abbrev S536x512 : Shape := ⟨2, ![536, 512]⟩
abbrev S64x128 : Shape := ⟨2, ![64, 128]⟩
abbrev S1x64x128 : Shape := ⟨3, ![1, 64, 128]⟩
abbrev S1x1x1x128 : Shape := ⟨4, ![1, 1, 1, 128]⟩
abbrev S1x128 : Shape := ⟨2, ![1, 128]⟩
abbrev S512 : Shape := ⟨1, ![512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 9
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4x31x1x128, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S4x128x128, .f32⟩
  | .hbm, ⟨6, _⟩ => ⟨S1x512, .f32⟩
  | .hbm, ⟨7, _⟩ => ⟨S4096x1024, .bf16⟩
  | .hbm, ⟨8, _⟩ => ⟨S4096x512, .f32⟩
  | .local _ .vmem, ⟨0, _⟩ => ⟨S512x1536, .f32⟩
  | .local _ .vmem, ⟨1, _⟩ => ⟨S512x1536, .f32⟩
  | .local _ .vmem, ⟨2, _⟩ => ⟨S32x1536, .f32⟩
  | .local _ .vmem, ⟨3, _⟩ => ⟨S32x1536, .f32⟩
  | .local _ .vmem, ⟨4, _⟩ => ⟨S4x31x1x128, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S512x512, .f32⟩
  | .local _ .vmem, ⟨13, _⟩ => ⟨S512x512, .f32⟩
  | .local _ .vmem, ⟨14, _⟩ => ⟨S8x544x512, .f32⟩
  | .local _ .vmem, ⟨15, _⟩ => ⟨S544x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x31x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SeqFwdRefIdeal.lean ====
abbrev S4096x1536 : Shape := ⟨2, ![4096, 1536]⟩
abbrev S4x31x1x128 : Shape := ⟨4, ![4, 31, 1, 128]⟩
abbrev S1x512 : Shape := ⟨2, ![1, 512]⟩
abbrev S4x128x128 : Shape := ⟨3, ![4, 128, 128]⟩
abbrev S4x31x128 : Shape := ⟨3, ![4, 31, 128]⟩
abbrev S31x4x128 : Shape := ⟨3, ![31, 4, 128]⟩
abbrev S31x512 : Shape := ⟨2, ![31, 512]⟩
abbrev S4096x512 : Shape := ⟨2, ![4096, 512]⟩
abbrev S_ : Shape := ⟨0, ![]⟩
abbrev S4126x512 : Shape := ⟨2, ![4126, 512]⟩
abbrev S512 : Shape := ⟨1, ![512]⟩
abbrev S4096 : Shape := ⟨1, ![4096]⟩
abbrev S4096x1 : Shape := ⟨2, ![4096, 1]⟩
abbrev S4096x128 : Shape := ⟨2, ![4096, 128]⟩
abbrev S4098x128 : Shape := ⟨2, ![4098, 128]⟩
abbrev S1x128x128 : Shape := ⟨3, ![1, 128, 128]⟩
abbrev S128x128 : Shape := ⟨2, ![128, 128]⟩
abbrev S4100x128 : Shape := ⟨2, ![4100, 128]⟩
abbrev S4104x128 : Shape := ⟨2, ![4104, 128]⟩
abbrev S4112x128 : Shape := ⟨2, ![4112, 128]⟩
abbrev S4096x1024 : Shape := ⟨2, ![4096, 1024]⟩

abbrev nBuf : Space → Nat
  | .hbm => 388
  | .vmem => 0
  | .smem => 0
  | _ => 0

abbrev hbmTy0_0 (i : Nat) : BufTy := match i % 128 with
  | 0 => ⟨S4096x1536, .f32⟩
  | 1 => ⟨S4x31x1x128, .f32⟩
  | 2 => ⟨S1x512, .f32⟩
  | 3 => ⟨S1x512, .f32⟩
  | 4 => ⟨S1x512, .f32⟩
  | 5 => ⟨S4x128x128, .f32⟩
  | 6 => ⟨S1x512, .f32⟩
  | 7 => ⟨S4x31x128, .f32⟩
  | 8 => ⟨S31x4x128, .f32⟩
  | 9 => ⟨S31x512, .f32⟩
  | 10 => ⟨S4096x512, .f32⟩
  | 11 => ⟨S4096x512, .f32⟩
  | 12 => ⟨S4096x512, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S_, .i32⟩
  | 23 => ⟨S_, .f32⟩
  | 24 => ⟨S4126x512, .f32⟩
  | 25 => ⟨S4096x512, .f32⟩
  | 26 => ⟨S1x512, .f32⟩
  | 27 => ⟨S512, .f32⟩
  | 28 => ⟨S1x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S1x512, .f32⟩
  | 36 => ⟨S512, .f32⟩
  | 37 => ⟨S1x512, .f32⟩
  | 38 => ⟨S4096x512, .f32⟩
  | 39 => ⟨S4096x512, .f32⟩
  | 40 => ⟨S4096x512, .f32⟩
  | 41 => ⟨S4096x512, .f32⟩
  | 42 => ⟨S1x512, .f32⟩
  | 43 => ⟨S512, .f32⟩
  | 44 => ⟨S1x512, .f32⟩
  | 45 => ⟨S4096x512, .f32⟩
  | 46 => ⟨S4096x512, .f32⟩
  | 47 => ⟨S4096x512, .f32⟩
  | 48 => ⟨S4096x512, .f32⟩
  | 49 => ⟨S1x512, .f32⟩
  | 50 => ⟨S512, .f32⟩
  | 51 => ⟨S1x512, .f32⟩
  | 52 => ⟨S4096x512, .f32⟩
  | 53 => ⟨S4096x512, .f32⟩
  | 54 => ⟨S4096x512, .f32⟩
  | 55 => ⟨S4096x512, .f32⟩
  | 56 => ⟨S1x512, .f32⟩
  | 57 => ⟨S512, .f32⟩
  | 58 => ⟨S1x512, .f32⟩
  | 59 => ⟨S4096x512, .f32⟩
  | 60 => ⟨S4096x512, .f32⟩
  | 61 => ⟨S4096x512, .f32⟩
  | 62 => ⟨S4096x512, .f32⟩
  | 63 => ⟨S1x512, .f32⟩
  | 64 => ⟨S512, .f32⟩
  | 65 => ⟨S1x512, .f32⟩
  | 66 => ⟨S4096x512, .f32⟩
  | 67 => ⟨S4096x512, .f32⟩
  | 68 => ⟨S4096x512, .f32⟩
  | 69 => ⟨S4096x512, .f32⟩
  | 70 => ⟨S1x512, .f32⟩
  | 71 => ⟨S512, .f32⟩
  | 72 => ⟨S1x512, .f32⟩
  | 73 => ⟨S4096x512, .f32⟩
  | 74 => ⟨S4096x512, .f32⟩
  | 75 => ⟨S4096x512, .f32⟩
  | 76 => ⟨S4096x512, .f32⟩
  | 77 => ⟨S1x512, .f32⟩
  | 78 => ⟨S512, .f32⟩
  | 79 => ⟨S1x512, .f32⟩
  | 80 => ⟨S4096x512, .f32⟩
  | 81 => ⟨S4096x512, .f32⟩
  | 82 => ⟨S4096x512, .f32⟩
  | 83 => ⟨S4096x512, .f32⟩
  | 84 => ⟨S1x512, .f32⟩
  | 85 => ⟨S512, .f32⟩
  | 86 => ⟨S1x512, .f32⟩
  | 87 => ⟨S4096x512, .f32⟩
  | 88 => ⟨S4096x512, .f32⟩
  | 89 => ⟨S4096x512, .f32⟩
  | 90 => ⟨S4096x512, .f32⟩
  | 91 => ⟨S1x512, .f32⟩
  | 92 => ⟨S512, .f32⟩
  | 93 => ⟨S1x512, .f32⟩
  | 94 => ⟨S4096x512, .f32⟩
  | 95 => ⟨S4096x512, .f32⟩
  | 96 => ⟨S4096x512, .f32⟩
  | 97 => ⟨S4096x512, .f32⟩
  | 98 => ⟨S1x512, .f32⟩
  | 99 => ⟨S512, .f32⟩
  | 100 => ⟨S1x512, .f32⟩
  | 101 => ⟨S4096x512, .f32⟩
  | 102 => ⟨S4096x512, .f32⟩
  | 103 => ⟨S4096x512, .f32⟩
  | 104 => ⟨S4096x512, .f32⟩
  | 105 => ⟨S1x512, .f32⟩
  | 106 => ⟨S512, .f32⟩
  | 107 => ⟨S1x512, .f32⟩
  | 108 => ⟨S4096x512, .f32⟩
  | 109 => ⟨S4096x512, .f32⟩
  | 110 => ⟨S4096x512, .f32⟩
  | 111 => ⟨S4096x512, .f32⟩
  | 112 => ⟨S1x512, .f32⟩
  | 113 => ⟨S512, .f32⟩
  | 114 => ⟨S1x512, .f32⟩
  | 115 => ⟨S4096x512, .f32⟩
  | 116 => ⟨S4096x512, .f32⟩
  | 117 => ⟨S4096x512, .f32⟩
  | 118 => ⟨S4096x512, .f32⟩
  | 119 => ⟨S1x512, .f32⟩
  | 120 => ⟨S512, .f32⟩
  | 121 => ⟨S1x512, .f32⟩
  | 122 => ⟨S4096x512, .f32⟩
  | 123 => ⟨S4096x512, .f32⟩
  | 124 => ⟨S4096x512, .f32⟩
  | 125 => ⟨S4096x512, .f32⟩
  | 126 => ⟨S1x512, .f32⟩
  | 127 => ⟨S512, .f32⟩
  | _ => ⟨S4096x1536, .f32⟩

abbrev hbmTy0_1 (i : Nat) : BufTy := match i % 128 with
  | 0 => ⟨S1x512, .f32⟩
  | 1 => ⟨S4096x512, .f32⟩
  | 2 => ⟨S4096x512, .f32⟩
  | 3 => ⟨S4096x512, .f32⟩
  | 4 => ⟨S4096x512, .f32⟩
  | 5 => ⟨S1x512, .f32⟩
  | 6 => ⟨S512, .f32⟩
  | 7 => ⟨S1x512, .f32⟩
  | 8 => ⟨S4096x512, .f32⟩
  | 9 => ⟨S4096x512, .f32⟩
  | 10 => ⟨S4096x512, .f32⟩
  | 11 => ⟨S4096x512, .f32⟩
  | 12 => ⟨S1x512, .f32⟩
  | 13 => ⟨S512, .f32⟩
  | 14 => ⟨S1x512, .f32⟩
  | 15 => ⟨S4096x512, .f32⟩
  | 16 => ⟨S4096x512, .f32⟩
  | 17 => ⟨S4096x512, .f32⟩
  | 18 => ⟨S4096x512, .f32⟩
  | 19 => ⟨S1x512, .f32⟩
  | 20 => ⟨S512, .f32⟩
  | 21 => ⟨S1x512, .f32⟩
  | 22 => ⟨S4096x512, .f32⟩
  | 23 => ⟨S4096x512, .f32⟩
  | 24 => ⟨S4096x512, .f32⟩
  | 25 => ⟨S4096x512, .f32⟩
  | 26 => ⟨S1x512, .f32⟩
  | 27 => ⟨S512, .f32⟩
  | 28 => ⟨S1x512, .f32⟩
  | 29 => ⟨S4096x512, .f32⟩
  | 30 => ⟨S4096x512, .f32⟩
  | 31 => ⟨S4096x512, .f32⟩
  | 32 => ⟨S4096x512, .f32⟩
  | 33 => ⟨S1x512, .f32⟩
  | 34 => ⟨S512, .f32⟩
  | 35 => ⟨S1x512, .f32⟩
  | 36 => ⟨S4096x512, .f32⟩
  | 37 => ⟨S4096x512, .f32⟩
  | 38 => ⟨S4096x512, .f32⟩
  | 39 => ⟨S4096x512, .f32⟩
  | 40 => ⟨S1x512, .f32⟩
  | 41 => ⟨S512, .f32⟩
  | 42 => ⟨S1x512, .f32⟩
  | 43 => ⟨S4096x512, .f32⟩
  | 44 => ⟨S4096x512, .f32⟩
  | 45 => ⟨S4096x512, .f32⟩
  | 46 => ⟨S4096x512, .f32⟩
  | 47 => ⟨S1x512, .f32⟩
  | 48 => ⟨S512, .f32⟩
  | 49 => ⟨S1x512, .f32⟩
  | 50 => ⟨S4096x512, .f32⟩
  | 51 => ⟨S4096x512, .f32⟩
  | 52 => ⟨S4096x512, .f32⟩
  | 53 => ⟨S4096x512, .f32⟩
  | 54 => ⟨S1x512, .f32⟩
  | 55 => ⟨S512, .f32⟩
  | 56 => ⟨S1x512, .f32⟩
  | 57 => ⟨S4096x512, .f32⟩
  | 58 => ⟨S4096x512, .f32⟩
  | 59 => ⟨S4096x512, .f32⟩
  | 60 => ⟨S4096x512, .f32⟩
  | 61 => ⟨S1x512, .f32⟩
  | 62 => ⟨S512, .f32⟩
  | 63 => ⟨S1x512, .f32⟩
  | 64 => ⟨S4096x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S1x512, .f32⟩
  | 71 => ⟨S4096x512, .f32⟩
  | 72 => ⟨S4096x512, .f32⟩
  | 73 => ⟨S4096x512, .f32⟩
  | 74 => ⟨S4096x512, .f32⟩
  | 75 => ⟨S1x512, .f32⟩
  | 76 => ⟨S512, .f32⟩
  | 77 => ⟨S1x512, .f32⟩
  | 78 => ⟨S4096x512, .f32⟩
  | 79 => ⟨S4096x512, .f32⟩
  | 80 => ⟨S4096x512, .f32⟩
  | 81 => ⟨S4096x512, .f32⟩
  | 82 => ⟨S1x512, .f32⟩
  | 83 => ⟨S512, .f32⟩
  | 84 => ⟨S1x512, .f32⟩
  | 85 => ⟨S4096x512, .f32⟩
  | 86 => ⟨S4096x512, .f32⟩
  | 87 => ⟨S4096x512, .f32⟩
  | 88 => ⟨S4096x512, .f32⟩
  | 89 => ⟨S1x512, .f32⟩
  | 90 => ⟨S512, .f32⟩
  | 91 => ⟨S1x512, .f32⟩
  | 92 => ⟨S4096x512, .f32⟩
  | 93 => ⟨S4096x512, .f32⟩
  | 94 => ⟨S4096x512, .f32⟩
  | 95 => ⟨S4096x512, .f32⟩
  | 96 => ⟨S1x512, .f32⟩
  | 97 => ⟨S512, .f32⟩
  | 98 => ⟨S1x512, .f32⟩
  | 99 => ⟨S4096x512, .f32⟩
  | 100 => ⟨S4096x512, .f32⟩
  | 101 => ⟨S4096x512, .f32⟩
  | 102 => ⟨S4096x512, .f32⟩
  | 103 => ⟨S1x512, .f32⟩
  | 104 => ⟨S512, .f32⟩
  | 105 => ⟨S1x512, .f32⟩
  | 106 => ⟨S4096x512, .f32⟩
  | 107 => ⟨S4096x512, .f32⟩
  | 108 => ⟨S4096x512, .f32⟩
  | 109 => ⟨S4096x512, .f32⟩
  | 110 => ⟨S1x512, .f32⟩
  | 111 => ⟨S512, .f32⟩
  | 112 => ⟨S1x512, .f32⟩
  | 113 => ⟨S4096x512, .f32⟩
  | 114 => ⟨S4096x512, .f32⟩
  | 115 => ⟨S4096x512, .f32⟩
  | 116 => ⟨S512, .f32⟩
  | 117 => ⟨S1x512, .f32⟩
  | 118 => ⟨S4096x512, .f32⟩
  | 119 => ⟨S4096x512, .f32⟩
  | 120 => ⟨S512, .f32⟩
  | 121 => ⟨S512, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x1536, .f32⟩

abbrev hbmTy0_2 (i : Nat) : BufTy := match i % 128 with
  | 0 => ⟨S4096x512, .f32⟩
  | 1 => ⟨S4096x512, .f32⟩
  | 2 => ⟨S4096x512, .f32⟩
  | 3 => ⟨S_, .f32⟩
  | 4 => ⟨S4096, .f32⟩
  | 5 => ⟨S4096x1, .f32⟩
  | 6 => ⟨S_, .f32⟩
  | 7 => ⟨S4096x1, .f32⟩
  | 8 => ⟨S4096x1, .f32⟩
  | 9 => ⟨S4096x512, .f32⟩
  | 10 => ⟨S4096x512, .f32⟩
  | 11 => ⟨S_, .f32⟩
  | 12 => ⟨S4096x1, .f32⟩
  | 13 => ⟨S4096x1, .f32⟩
  | 14 => ⟨S4096x1, .f32⟩
  | 15 => ⟨S4096x512, .f32⟩
  | 16 => ⟨S4096x512, .f32⟩
  | 17 => ⟨S1x512, .f32⟩
  | 18 => ⟨S4096x512, .f32⟩
  | 19 => ⟨S4096x512, .f32⟩
  | 20 => ⟨S1x512, .f32⟩
  | 21 => ⟨S4096x512, .f32⟩
  | 22 => ⟨S4096x512, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S4096x512, .f32⟩
  | 32 => ⟨S4096, .i32⟩
  | 33 => ⟨S4096x128, .f32⟩
  | 34 => ⟨S_, .f32⟩
  | 35 => ⟨S_, .f32⟩
  | 36 => ⟨S4096x128, .f32⟩
  | 37 => ⟨S_, .i32⟩
  | 38 => ⟨S_, .f32⟩
  | 39 => ⟨S4098x128, .f32⟩
  | 40 => ⟨S4096x128, .f32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .f32⟩
  | 48 => ⟨S4096x1, .f32⟩
  | 49 => ⟨S4096x128, .f32⟩
  | 50 => ⟨S4096x128, .f32⟩
  | 51 => ⟨S4096x128, .f32⟩
  | 52 => ⟨S4096x128, .f32⟩
  | 53 => ⟨S1x128x128, .f32⟩
  | 54 => ⟨S128x128, .f32⟩
  | 55 => ⟨S4096x128, .f32⟩
  | 56 => ⟨S4096x128, .f32⟩
  | 57 => ⟨S_, .f32⟩
  | 58 => ⟨S_, .f32⟩
  | 59 => ⟨S4096x128, .f32⟩
  | 60 => ⟨S_, .i32⟩
  | 61 => ⟨S_, .f32⟩
  | 62 => ⟨S4100x128, .f32⟩
  | 63 => ⟨S4096x128, .f32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S4096, .f32⟩
  | 71 => ⟨S4096x1, .f32⟩
  | 72 => ⟨S4096x128, .f32⟩
  | 73 => ⟨S4096x128, .f32⟩
  | 74 => ⟨S4096x128, .f32⟩
  | 75 => ⟨S4096x128, .f32⟩
  | 76 => ⟨S1x128x128, .f32⟩
  | 77 => ⟨S128x128, .f32⟩
  | 78 => ⟨S4096x128, .f32⟩
  | 79 => ⟨S4096x128, .f32⟩
  | 80 => ⟨S_, .f32⟩
  | 81 => ⟨S_, .f32⟩
  | 82 => ⟨S4096x128, .f32⟩
  | 83 => ⟨S_, .i32⟩
  | 84 => ⟨S_, .f32⟩
  | 85 => ⟨S4104x128, .f32⟩
  | 86 => ⟨S4096x128, .f32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S4096, .f32⟩
  | 94 => ⟨S4096x1, .f32⟩
  | 95 => ⟨S4096x128, .f32⟩
  | 96 => ⟨S4096x128, .f32⟩
  | 97 => ⟨S4096x128, .f32⟩
  | 98 => ⟨S4096x128, .f32⟩
  | 99 => ⟨S1x128x128, .f32⟩
  | 100 => ⟨S128x128, .f32⟩
  | 101 => ⟨S4096x128, .f32⟩
  | 102 => ⟨S4096x128, .f32⟩
  | 103 => ⟨S_, .f32⟩
  | 104 => ⟨S_, .f32⟩
  | 105 => ⟨S4096x128, .f32⟩
  | 106 => ⟨S_, .i32⟩
  | 107 => ⟨S_, .f32⟩
  | 108 => ⟨S4112x128, .f32⟩
  | 109 => ⟨S4096x128, .f32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S4096, .f32⟩
  | 117 => ⟨S4096x1, .f32⟩
  | 118 => ⟨S4096x128, .f32⟩
  | 119 => ⟨S4096x128, .f32⟩
  | 120 => ⟨S4096x128, .f32⟩
  | 121 => ⟨S4096x128, .f32⟩
  | 122 => ⟨S1x128x128, .f32⟩
  | 123 => ⟨S128x128, .f32⟩
  | 124 => ⟨S4096x128, .f32⟩
  | 125 => ⟨S4096x512, .f32⟩
  | 126 => ⟨S512, .f32⟩
  | 127 => ⟨S1x512, .f32⟩
  | _ => ⟨S4096x1536, .f32⟩

abbrev hbmTy0_3 (i : Nat) : BufTy := match i % 128 with
  | 0 => ⟨S4096x512, .f32⟩
  | 1 => ⟨S4096x512, .f32⟩
  | 2 => ⟨S4096x1024, .f32⟩
  | 3 => ⟨S4096x1024, .bf16⟩
  | _ => ⟨S4096x1536, .f32⟩

abbrev hbmTy (i : Nat) : BufTy := match i / 128 with
  | 0 => hbmTy0_0 i
  | 1 => hbmTy0_1 i
  | 2 => hbmTy0_2 i
  | 3 => hbmTy0_3 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_cst_2 : Ref sig .tc := ⟨.hbm, 250, rfl⟩
abbrev main_v238 : Ref sig .tc := ⟨.hbm, 251, rfl⟩
abbrev main_v239 : Ref sig .tc := ⟨.hbm, 252, rfl⟩
abbrev main_cst_3 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_cst_4 : Ref sig .tc := ⟨.hbm, 259, rfl⟩
abbrev main_v245 : Ref sig .tc := ⟨.hbm, 260, rfl⟩
abbrev main_v246 : Ref sig .tc := ⟨.hbm, 261, rfl⟩
abbrev main_cst_5 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_cst_6 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_call1_v0 : Ref sig .tc := ⟨.hbm, 279, rfl⟩
abbrev main_call1_v1 : Ref sig .tc := ⟨.hbm, 280, rfl⟩
abbrev main_call1_cst : Ref sig .tc := ⟨.hbm, 281, rfl⟩
abbrev main_call1_v2 : Ref sig .tc := ⟨.hbm, 282, rfl⟩
abbrev main_call1_v3 : Ref sig .tc := ⟨.hbm, 283, rfl⟩
abbrev main_call1_cst_0 : Ref sig .tc := ⟨.hbm, 284, rfl⟩
abbrev main_call1_v4 : Ref sig .tc := ⟨.hbm, 285, rfl⟩
abbrev main_call1_v5 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_call2_call0_cst : Ref sig .tc := ⟨.hbm, 290, rfl⟩
abbrev main_call2_call0_v0 : Ref sig .tc := ⟨.hbm, 291, rfl⟩
abbrev main_v265 : Ref sig .tc := ⟨.hbm, 292, rfl⟩
abbrev main_c_7 : Ref sig .tc := ⟨.hbm, 293, rfl⟩
abbrev main_call3_v0 : Ref sig .tc := ⟨.hbm, 294, rfl⟩
abbrev main_v266 : Ref sig .tc := ⟨.hbm, 295, rfl⟩
abbrev main_v267 : Ref sig .tc := ⟨.hbm, 296, rfl⟩
abbrev main_c_8 : Ref sig .tc := ⟨.hbm, 297, rfl⟩
abbrev main_v268 : Ref sig .tc := ⟨.hbm, 298, rfl⟩
abbrev main_v269 : Ref sig .tc := ⟨.hbm, 299, rfl⟩
abbrev main_c_9 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_call4_call0_cst : Ref sig .tc := ⟨.hbm, 313, rfl⟩
abbrev main_call4_call0_v0 : Ref sig .tc := ⟨.hbm, 314, rfl⟩
abbrev main_v282 : Ref sig .tc := ⟨.hbm, 315, rfl⟩
abbrev main_c_10 : Ref sig .tc := ⟨.hbm, 316, rfl⟩
abbrev main_call5_v0 : Ref sig .tc := ⟨.hbm, 317, rfl⟩
abbrev main_v283 : Ref sig .tc := ⟨.hbm, 318, rfl⟩
abbrev main_v284 : Ref sig .tc := ⟨.hbm, 319, rfl⟩
abbrev main_c_11 : Ref sig .tc := ⟨.hbm, 320, rfl⟩
abbrev main_v285 : Ref sig .tc := ⟨.hbm, 321, rfl⟩
abbrev main_v286 : Ref sig .tc := ⟨.hbm, 322, rfl⟩
abbrev main_c_12 : Ref sig .tc := ⟨.hbm, 323, rfl⟩
abbrev main_v287 : Ref sig .tc := ⟨.hbm, 324, rfl⟩
abbrev main_v288 : Ref sig .tc := ⟨.hbm, 325, rfl⟩
abbrev main_v289 : Ref sig .tc := ⟨.hbm, 326, rfl⟩
abbrev main_v290 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_v297 : Ref sig .tc := ⟨.hbm, 334, rfl⟩
abbrev main_v298 : Ref sig .tc := ⟨.hbm, 335, rfl⟩
abbrev main_call6_call0_cst : Ref sig .tc := ⟨.hbm, 336, rfl⟩
abbrev main_call6_call0_v0 : Ref sig .tc := ⟨.hbm, 337, rfl⟩
abbrev main_v299 : Ref sig .tc := ⟨.hbm, 338, rfl⟩
abbrev main_c_13 : Ref sig .tc := ⟨.hbm, 339, rfl⟩
abbrev main_call7_v0 : Ref sig .tc := ⟨.hbm, 340, rfl⟩
abbrev main_v300 : Ref sig .tc := ⟨.hbm, 341, rfl⟩
abbrev main_v301 : Ref sig .tc := ⟨.hbm, 342, rfl⟩
abbrev main_c_14 : Ref sig .tc := ⟨.hbm, 343, rfl⟩
abbrev main_v302 : Ref sig .tc := ⟨.hbm, 344, rfl⟩
abbrev main_v303 : Ref sig .tc := ⟨.hbm, 345, rfl⟩
abbrev main_c_15 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_call8_call0_cst : Ref sig .tc := ⟨.hbm, 359, rfl⟩
abbrev main_call8_call0_v0 : Ref sig .tc := ⟨.hbm, 360, rfl⟩
abbrev main_v316 : Ref sig .tc := ⟨.hbm, 361, rfl⟩
abbrev main_c_16 : Ref sig .tc := ⟨.hbm, 362, rfl⟩
abbrev main_call9_v0 : Ref sig .tc := ⟨.hbm, 363, rfl⟩
abbrev main_v317 : Ref sig .tc := ⟨.hbm, 364, rfl⟩
abbrev main_v318 : Ref sig .tc := ⟨.hbm, 365, rfl⟩
abbrev main_c_17 : Ref sig .tc := ⟨.hbm, 366, rfl⟩
abbrev main_v319 : Ref sig .tc := ⟨.hbm, 367, rfl⟩
abbrev main_v320 : Ref sig .tc := ⟨.hbm, 368, rfl⟩
abbrev main_c_18 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_v337 : Ref sig .tc := ⟨.hbm, 386, rfl⟩
abbrev main_v338 : Ref sig .tc := ⟨.hbm, 387, rfl⟩

abbrev nD : Nat := 1
abbrev τ : Topo := Topo.v7x

variable {F : FTy → Type} [FloatOps F]
-- ==== PackSmall.lean ====
abbrev S4x32x128 : Shape := ⟨3, ![4, 32, 128]⟩
abbrev S4x128x128 : Shape := ⟨3, ![4, 128, 128]⟩
abbrev S1x512 : Shape := ⟨2, ![1, 512]⟩
abbrev S1x1024 : Shape := ⟨2, ![1, 1024]⟩
abbrev S1x1536 : Shape := ⟨2, ![1, 1536]⟩
abbrev S176x512 : Shape := ⟨2, ![176, 512]⟩
abbrev S1x32x128 : Shape := ⟨3, ![1, 32, 128]⟩
abbrev S32x128 : Shape := ⟨2, ![32, 128]⟩
abbrev S1x128x128 : Shape := ⟨3, ![1, 128, 128]⟩
abbrev S128x128 : Shape := ⟨2, ![128, 128]⟩

abbrev nBuf : Space → Nat
  | .hbm => 10
  | .vmem => 10
  | .smem => 0
  | _ => 0

abbrev bufTy : (tb : Table) → Fin (tcTables nBuf tb) → BufTy
  | .hbm, ⟨0, _⟩ => ⟨S4x32x128, .f32⟩
  | .hbm, ⟨1, _⟩ => ⟨S4x128x128, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S1x1536, .f32⟩
  | .hbm, ⟨9, _⟩ => ⟨S176x512, .f32⟩
  | .local _ .vmem, ⟨0, _⟩ => ⟨S4x32x128, .f32⟩
  | .local _ .vmem, ⟨1, _⟩ => ⟨S4x128x128, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x1024, .f32⟩
  | .local _ .vmem, ⟨7, _⟩ => ⟨S1x1024, .f32⟩
  | .local _ .vmem, ⟨8, _⟩ => ⟨S1x1536, .f32⟩
  | .local _ .vmem, ⟨9, _⟩ => ⟨S176x512, .f32⟩
  | _, _ => ⟨S4x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S176x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== PackSmallRefIdeal.lean ====
abbrev S4x32x128 : Shape := ⟨3, ![4, 32, 128]⟩
abbrev S4x128x128 : Shape := ⟨3, ![4, 128, 128]⟩
abbrev S1x512 : Shape := ⟨2, ![1, 512]⟩
abbrev S1x1024 : Shape := ⟨2, ![1, 1024]⟩
abbrev S1x1536 : Shape := ⟨2, ![1, 1536]⟩
abbrev S32x4x128 : Shape := ⟨3, ![32, 4, 128]⟩
abbrev S32x512 : Shape := ⟨2, ![32, 512]⟩
abbrev S128x4x128 : Shape := ⟨3, ![128, 4, 128]⟩
abbrev S128x512 : Shape := ⟨2, ![128, 512]⟩
abbrev S2x512 : Shape := ⟨2, ![2, 512]⟩
abbrev S3x512 : Shape := ⟨2, ![3, 512]⟩
abbrev S_ : Shape := ⟨0, ![]⟩
abbrev S5x512 : Shape := ⟨2, ![5, 512]⟩
abbrev S176x512 : Shape := ⟨2, ![176, 512]⟩

abbrev nBuf : Space → Nat
  | .hbm => 19
  | .vmem => 0
  | .smem => 0
  | _ => 0

abbrev bufTy : (tb : Table) → Fin (tcTables nBuf tb) → BufTy
  | .hbm, ⟨0, _⟩ => ⟨S4x32x128, .f32⟩
  | .hbm, ⟨1, _⟩ => ⟨S4x128x128, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S1x1536, .f32⟩
  | .hbm, ⟨9, _⟩ => ⟨S32x4x128, .f32⟩
  | .hbm, ⟨10, _⟩ => ⟨S32x512, .f32⟩
  | .hbm, ⟨11, _⟩ => ⟨S128x4x128, .f32⟩
  | .hbm, ⟨12, _⟩ => ⟨S128x512, .f32⟩
  | .hbm, ⟨13, _⟩ => ⟨S2x512, .f32⟩
  | .hbm, ⟨14, _⟩ => ⟨S2x512, .f32⟩
  | .hbm, ⟨15, _⟩ => ⟨S3x512, .f32⟩
  | .hbm, ⟨16, _⟩ => ⟨S_, .f32⟩
  | .hbm, ⟨17, _⟩ => ⟨S5x512, .f32⟩
  | .hbm, ⟨18, _⟩ => ⟨S176x512, .f32⟩
  | _, _ => ⟨S4x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== SumSmall.lean ====
abbrev S1 : Shape := ⟨1, ![1]⟩
abbrev S176x512 : Shape := ⟨2, ![176, 512]⟩
abbrev S3x176x512 : Shape := ⟨3, ![3, 176, 512]⟩
abbrev S1x176x512 : Shape := ⟨3, ![1, 176, 512]⟩

abbrev nBuf : Space → Nat
  | .hbm => 3
  | .vmem => 3
  | .smem => 1
  | _ => 0

abbrev bufTy : (tb : Table) → Fin (tcTables nBuf tb) → BufTy
  | .hbm, ⟨0, _⟩ => ⟨S176x512, .f32⟩
  | .hbm, ⟨1, _⟩ => ⟨S3x176x512, .f32⟩
  | .hbm, ⟨2, _⟩ => ⟨S176x512, .f32⟩
  | .local _ .vmem, ⟨0, _⟩ => ⟨S176x512, .f32⟩
  | .local _ .vmem, ⟨1, _⟩ => ⟨S3x176x512, .f32⟩
  | .local _ .vmem, ⟨2, _⟩ => ⟨S176x512, .f32⟩
  | .local _ .smem, ⟨0, _⟩ => ⟨S1, .i32⟩
  | _, _ => ⟨S176x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S176x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x176x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S176x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumSmallRefIdeal.lean ====
abbrev S1 : Shape := ⟨1, ![1]⟩
abbrev S176x512 : Shape := ⟨2, ![176, 512]⟩
abbrev S3x176x512 : Shape := ⟨3, ![3, 176, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1, .i32⟩
  | .hbm, ⟨1, _⟩ => ⟨S176x512, .f32⟩
  | .hbm, ⟨2, _⟩ => ⟨S3x176x512, .f32⟩
  | .hbm, ⟨3, _⟩ => ⟨S_, .f32⟩
  | .hbm, ⟨4, _⟩ => ⟨S176x512, .f32⟩
  | .hbm, ⟨5, _⟩ => ⟨S176x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Proof.RmsBwd.lean ====
module

public import Idealize.ShloMosaic.Lib.Pipeline.ValueKit
public import Idealize.ShloMosaic.Lib.Pointwise

@[expose] public section

set_option maxRecDepth 16384

/-! # Backward of a root-mean-square norm over extended reals

Both the gradient that the kernels compute in one formula and the one that automatic differentiation
writes down are the same function of a row `x` and of an incoming gradient `a`, whatever the row
holds: where the row is finite the factors are finite reals, and where it is not the reciprocal root
is zero and every term vanishes. -/

noncomputable section

namespace Cert.Proof.RmsBwd

open Idealize.ShloMosaic

/-- The number of lanes of a row. -/
theorem lanes : Ideal.ofBits FTy.f32 1149239296#32 = ((1024 : ℝ) : EReal) := by
  simp [Ideal.ofBits, Ideal.ieee, -EReal.coe_mul]
  norm_num

/-- The constant under the root is a positive real. -/
theorem eps : ∃ e : ℝ, 0 < e ∧ Ideal.ofBits FTy.f32 897988541#32 = (e : EReal) := by
  refine ⟨_, ?_, by simp [Ideal.ofBits, Ideal.ieee, -EReal.coe_mul]; rfl⟩
  norm_num

/-- The derivative of the root brings minus one half. -/
theorem half : Ideal.ofBits FTy.f32 3204448256#32 = ((-(1 / 2) : ℝ) : EReal) := by
  simp [Ideal.ofBits, Ideal.ieee, -EReal.coe_mul]
  norm_num

/-- The mean square of a row plus the constant. -/
def ms (x : Fin 1024 → EReal) : EReal :=
  Ideal.div (∑ k, x k * x k) (Ideal.ofBits FTy.f32 1149239296#32) + Ideal.ofBits FTy.f32 897988541#32

/-- A square is not negative. -/
theorem sq_nonneg (z : EReal) : 0 ≤ z * z := by
  induction z with
  | bot => simp
  | top => simp
  | coe r => rw [← EReal.coe_mul]; exact_mod_cast mul_self_nonneg r

theorem add_self (z : EReal) : z + z = z * ((2 : ℝ) : EReal) := by
  induction z with
  | bot => rw [EReal.bot_mul_coe_of_pos (by norm_num)]; rfl
  | top => rw [EReal.top_mul_coe_of_pos (by norm_num)]; rfl
  | coe r => rw [← EReal.coe_mul, ← EReal.coe_add]; congr 1; ring

theorem scale_add (p : ℝ) (hp : 0 ≤ p) (u v : EReal) : (p : EReal) * (u + v) = p * u + p * v :=
  EReal.left_distrib_of_nonneg_of_ne_top (by exact_mod_cast hp) (EReal.coe_ne_top p) u v

theorem scale_sum {ι : Type} (s : Finset ι) (p : ℝ) (hp : 0 ≤ p) (f : ι → EReal) :
    ∑ k ∈ s, (p : EReal) * f k = p * ∑ k ∈ s, f k := by
  classical
  induction s using Finset.induction_on with
  | empty => simp
  | insert k s h ih => rw [Finset.sum_insert h, Finset.sum_insert h, ih, scale_add p hp]

theorem coe_sum {ι : Type} (s : Finset ι) (f : ι → ℝ) :
    ∑ k ∈ s, ((f k : ℝ) : EReal) = ((∑ k ∈ s, f k : ℝ) : EReal) := by
  classical
  induction s using Finset.induction_on with
  | empty => simp
  | insert k s h ih => rw [Finset.sum_insert h, Finset.sum_insert h, ih, EReal.coe_add]

theorem div_coe (z : EReal) (u : ℝ) (hu : u ≠ 0) : Ideal.div z (u : EReal) = z * ((u⁻¹ : ℝ) : EReal) := by
  rw [Ideal.div, if_neg (by exact_mod_cast hu), EReal.coe_inv]

/-- A row of reals has a positive real mean square. -/
theorem ms_coe (X : Fin 1024 → ℝ) : ∃ q : ℝ, 0 < q ∧ ms (fun k => ((X k : ℝ) : EReal)) = (q : EReal) := by
  obtain ⟨e, he, h⟩ := eps
  have hs : 0 ≤ ∑ k, X k * X k := Finset.sum_nonneg fun k _ => mul_self_nonneg (X k)
  refine ⟨(∑ k, X k * X k) * (1024 : ℝ)⁻¹ + e, by positivity, ?_⟩
  rw [ms, h, lanes, div_coe _ _ (by norm_num)]
  simp only [← EReal.coe_mul, coe_sum, ← EReal.coe_add]

/-- A row with an infinite entry has an infinite mean square. -/
theorem ms_top (x : Fin 1024 → EReal) (k : Fin 1024) (hk : x k = ⊤ ∨ x k = ⊥) : ms x = ⊤ := by
  obtain ⟨e, he, h⟩ := eps
  have hs : ∑ k, x k * x k = ⊤ := by
    refine top_le_iff.mp (le_trans (le_of_eq ?_)
      (Finset.single_le_sum (f := fun k => x k * x k) (fun i _ => sq_nonneg (x i)) (Finset.mem_univ k)))
    rcases hk with hk | hk <;> simp [hk]
  rw [ms, hs, h, lanes, div_coe _ _ (by norm_num), EReal.top_mul_coe_of_pos (by norm_num)]
  exact EReal.top_add_coe e

/-- A row is a row of reals, or it has an infinite entry. -/
theorem finite_or (x : Fin 1024 → EReal) :
    (∃ X : Fin 1024 → ℝ, x = fun k => ((X k : ℝ) : EReal)) ∨ ∃ k, x k = ⊤ ∨ x k = ⊥ := by
  by_cases h : ∃ k, x k = ⊤ ∨ x k = ⊥
  · exact Or.inr h
  · push Not at h
    exact Or.inl ⟨fun k => (x k).toReal, funext fun k => (EReal.coe_toReal (h k).1 (h k).2).symm⟩

/-- The gradient as automatic differentiation writes it is the gradient in one formula. -/
theorem grad (x a : Fin 1024 → EReal) (j : Fin 1024) :
    a j * Ideal.rsqrt (ms x)
      + x j * Ideal.div ((∑ k, x k * a k) * (Ideal.ofBits FTy.f32 3204448256#32 * Ideal.div (Ideal.rsqrt (ms x)) (ms x)))
          (Ideal.ofBits FTy.f32 1149239296#32)
      + Ideal.div ((∑ k, x k * a k) * (Ideal.ofBits FTy.f32 3204448256#32 * Ideal.div (Ideal.rsqrt (ms x)) (ms x)))
          (Ideal.ofBits FTy.f32 1149239296#32) * x j
    = Ideal.rsqrt (ms x) * (a j - x j * Ideal.rsqrt (ms x)
        * Ideal.div (∑ k, a k * (x k * Ideal.rsqrt (ms x))) (Ideal.ofBits FTy.f32 1149239296#32)) := by
  rw [half, lanes]
  rcases finite_or x with ⟨X, rfl⟩ | ⟨k, hk⟩
  · obtain ⟨q, hq, hms⟩ := ms_coe X
    rw [hms]
    have hr : Ideal.rsqrt (q : EReal) = (((Real.sqrt q)⁻¹ : ℝ) : EReal) := by
      rw [Ideal.rsqrt_coe, if_neg (by linarith), if_neg (by linarith)]
    have hsq : (Real.sqrt q)⁻¹ * (Real.sqrt q)⁻¹ = q⁻¹ := by
      rw [← mul_inv, Real.mul_self_sqrt hq.le]
    have hp : 0 ≤ (Real.sqrt q)⁻¹ := by positivity
    rw [hr]
    generalize (Real.sqrt q)⁻¹ = p at hsq hp
    have e1 : ∑ k, a k * (((X k : ℝ) : EReal) * (p : EReal)) = p * ∑ k, ((X k : ℝ) : EReal) * a k := by
      rw [← scale_sum _ p hp]
      exact Finset.sum_congr rfl fun k _ => by ac_rfl
    rw [e1]
    generalize ∑ k, ((X k : ℝ) : EReal) * a k = A
    rw [div_coe _ _ (by norm_num), div_coe _ _ hq.ne', div_coe _ _ (by norm_num), sub_eq_add_neg, scale_add p hp, add_assoc]
    have e2 : A * (((-(1 / 2) : ℝ) : EReal) * ((p : EReal) * ((q⁻¹ : ℝ) : EReal))) * (((1024 : ℝ)⁻¹ : ℝ) : EReal)
        = A * ((-(1 / 2) * (p * q⁻¹) * (1024 : ℝ)⁻¹ : ℝ) : EReal) := by
      simp only [EReal.coe_mul]; ac_rfl
    have e3 : (p : EReal) * -(((X j : ℝ) : EReal) * (p : EReal) * ((p : EReal) * A * (((1024 : ℝ)⁻¹ : ℝ) : EReal)))
        = A * ((-(p * X j * (p * p) * (1024 : ℝ)⁻¹) : ℝ) : EReal) := by
      rw [EReal.coe_neg, mul_neg, mul_neg]
      congr 1
      simp only [EReal.coe_mul]; ac_rfl
    rw [e2, e3, hsq, mul_comm ((X j : ℝ) : EReal), add_self, mul_comm (a j)]
    congr 1
    rw [mul_assoc A, mul_assoc A, ← EReal.coe_mul, ← EReal.coe_mul]
    congr 2
    ring
  · rw [ms_top x k hk, Ideal.rsqrt_top]
    have h0 : Ideal.div 0 ⊤ = 0 := by simp [Ideal.div]
    have h1 : Ideal.div 0 ((1024 : ℝ) : EReal) = 0 := by rw [div_coe _ _ (by norm_num), zero_mul]
    simp only [h0, h1, mul_zero, zero_mul, add_zero]

end Cert.Proof.RmsBwd
-- ==== Proof.InBwdValue.lean ====
module

public import proofs.«01_k».proof.Proof.RmsBwd
public import proofs.«01_k».proof.Proof.Gen.InBwdIdeal.Value
public import proofs.«01_k».proof.Proof.Gen.InRefIdeal.Read
public import Idealize.ShloMosaic.Lib.Pipeline.ValueKit
public import Idealize.ShloMosaic.Lib.Pipeline.ReadBack
public import Idealize.ShloMosaic.Lib.Pointwise

@[expose] public section

set_option maxRecDepth 16384

/-! # What the backward of the input projection leaves

The gradient of the call's input row by row, and the gradient of the norm's gain summed over the
sixteen blocks of rows. -/

noncomputable section

namespace Cert.Proof.InBwd

open Idealize.ShloMosaic Idealize.ShloMosaic.TcCoe Idealize.SL.Sem
open Cert.InBwdIdeal Cert.InBwdIdeal.Gen Cert.InRefIdeal.Read

/-- The gradient of the normed row before the gain, at a row and a lane. -/
def gy (z : S4096x1536.Idx → EReal) (w : S1536x1024.Idx → EReal) (g : S1x1024.Idx → EReal) (i : Fin 4096) (j : Fin 1024) : EReal :=
  (∑ k : Fin 1536, z (ix2 i k) * w (ix2 k j)) * g (ix2 0 j)

/-- The reciprocal root of a row. -/
def rr (x : S4096x1024.Idx → EReal) (i : Fin 4096) : EReal := Ideal.rsqrt (RmsBwd.ms fun k => x (ix2 i k))

/-- The gradient of the input. -/
def Gx (z : S4096x1536.Idx → EReal) (w : S1536x1024.Idx → EReal) (x d : S4096x1024.Idx → EReal) (g : S1x1024.Idx → EReal) :
    S4096x1024.Idx → EReal := fun i =>
  d i + rr x (i 0) * (gy z w g (i 0) (i 1) - x i * rr x (i 0)
    * Ideal.div (∑ k : Fin 1024, gy z w g (i 0) k * (x (ix2 (i 0) k) * rr x (i 0))) (Ideal.ofBits FTy.f32 1149239296#32))

/-- The gradient of the gain. -/
def Gg (z : S4096x1536.Idx → EReal) (w : S1536x1024.Idx → EReal) (x : S4096x1024.Idx → EReal) : S1x1024.Idx → EReal := fun i =>
  ∑ t : Fin 4096, (∑ k : Fin 1536, z (ix2 t k) * w (ix2 k (i 1))) * (x (ix2 t (i 1)) * rr x t)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

theorem out5 (c : Dev nD) (t : Fin cfg0.N) : (outsAt0 m c t.val t.isLt).1
    = k0_pay5 (iblk m c 0 t) (iblk m c 1 t) (iblk m c 2 t) (iblk m c 4 t) (iblk m c 3 t) := by
  have hN : t.val < 16 := lt_of_lt_of_eq t.isLt N_0
  by_cases h : t.val % 16 = 0
  · rw [outsAt0_A m c t h (by omega)]
    frame_out
  · rw [outsAt0_B m c t h (by omega)]
    frame_out

theorem final5 (c : Dev nD) : (dats m 0 c).arrAt 5 cfg0.N
    = Gx (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5, out5]
  unfold_payloads
  pointwise [Gx, gy, rr, RmsBwd.ms]
  blk_point [iblk, V, idx t]

theorem ref5 (z : S4096x1536.Idx → EReal) (w : S1536x1024.Idx → EReal) (x d : S4096x1024.Idx → EReal) (g : S1x1024.Idx → EReal) :
    val_main_v42 (F := Ideal) z w x d g = Gx z w x d g := by
  funext i
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, Gx]
  simp only [Ideal.ofBits_zero_f32, zero_add, Finset.univ_unique, Finset.sum_singleton]
  have h := RmsBwd.grad (fun k => x (ix2 (i 0) k)) (fun k => gy z w g (i 0) k) (i 1)
  simp only [ix2_eta] at h
  unfold rr
  refine Eq.trans ?_ (congrArg (d i + ·) h)
  simp only [add_assoc]
  rfl

theorem final6 (c : Dev nD) : (dats m 0 c).arrAt 6 cfg0.N
    = Gg (m ((c : Thread nD τ).loc main_arg0)) (m ((c : Thread nD τ).loc main_arg1)) (m ((c : Thread nD τ).loc main_arg2)) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun t j => k0_pay6 (iblk m c 0 t) (iblk m c 1 t) (iblk m c 2 t) j)
    (fun t h j => by
      rw [outsAt0_A m c t h (by have := lt_of_lt_of_eq t.isLt N_0; omega)]
      frame_out
      exact (zero_add _).symm)
    (fun t h j => by
      rw [outsAt0_B m c t h (by omega)]
      frame_out
      pointwise [k0_pay1]) (le_of_eq N_0) t0_15 rfl j, zero_add]
  unfold_payloads
  pointwise [Gg, rr, RmsBwd.ms]
  refine Fin.sum_mul_add_congr fun t k hl => ?_
  blk_point [iblk, V, idx t]

theorem ref6 (z : S4096x1536.Idx → EReal) (w : S1536x1024.Idx → EReal) (x : S4096x1024.Idx → EReal) :
    val_main_v43 (F := Ideal) z w x = Gg z w x := by
  funext i
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, Gg]
  simp only [Ideal.ofBits_zero_f32, zero_add, Finset.univ_unique, Finset.sum_singleton]
  unfold rr
  exact Fin.sum_fin_congr fun k => mul_comm _ _

end Cert.Proof.InBwd
-- ==== Proof.Silu.lean ====
module

public import Idealize.ShloMosaic.Lib.Pipeline.ValueKit
public import Idealize.ShloMosaic.Lib.Pointwise

@[expose] public section

set_option maxRecDepth 16384

/-! # The gate over extended reals

The logistic function, and the two ways in which the gate's derivative is written down. They agree for every gate
as soon as the factors beside it are real numbers: at an infinite gate the logistic is zero or one and the terms that
could be infinite are multiplied by zero. -/

noncomputable section

namespace Cert.Proof.Silu

open Idealize.ShloMosaic

/-- The logistic function. -/
def sg (z : EReal) : EReal := Ideal.div 1 (1 + Ideal.exp (0 - z))

theorem sg_bot : sg ⊥ = 0 := by
  have : (0 : EReal) - ⊥ = ⊤ := rfl
  have h1 : (1 : EReal) + ⊤ = ⊤ := rfl
  rw [sg, this, Ideal.exp_top, h1, Ideal.div, if_neg (by simp)]
  simp

theorem sg_top : sg ⊤ = 1 := by
  have : (0 : EReal) - ⊤ = ⊥ := rfl
  rw [sg, this, Ideal.exp_bot, add_zero, Ideal.div, if_neg (by simp)]
  simp

theorem sg_coe (r : ℝ) : ∃ s : ℝ, sg (r : EReal) = (s : EReal) := by
  refine ⟨1 * (1 + Real.exp (0 - r))⁻¹, ?_⟩
  have h : (1 + Real.exp (0 - r)) ≠ 0 := by positivity
  have e : (0 : EReal) - (r : EReal) = ((0 - r : ℝ) : EReal) := rfl
  have e1 : (1 : EReal) + ((Real.exp (0 - r) : ℝ) : EReal) = ((1 + Real.exp (0 - r) : ℝ) : EReal) := rfl
  rw [sg, e, Ideal.exp_coe, e1, Ideal.div, if_neg (by exact_mod_cast h), EReal.coe_mul, EReal.coe_inv]
  rfl

/-- The logistic with the sign on the gate itself. -/
theorem sg_neg (z : EReal) : Ideal.div 1 (1 + Ideal.exp (-z)) = sg z := by
  rw [sg, zero_sub]

theorem one_sub_coe (s : ℝ) : (1 : EReal) - (s : EReal) = ((1 - s : ℝ) : EReal) := rfl

theorem one_sub_one : (1 : EReal) - 1 = 0 := by
  have := one_sub_coe 1
  rw [sub_self] at this
  exact this

/-- The derivative as one product is the derivative as a sum of two. -/
theorem split (u : ℝ) (g : EReal) :
    (u : EReal) * (sg g * (1 + g * (1 - sg g))) = u * sg g + g * u * (sg g * (1 - sg g)) := by
  induction g with
  | bot => simp only [sg_bot, zero_mul, mul_zero, add_zero]
  | top => simp only [sg_top, one_sub_one, mul_one, mul_zero, add_zero, one_mul]
  | coe r =>
    obtain ⟨s, hs⟩ := sg_coe r
    rw [hs, one_sub_coe]
    have e1 : (1 : EReal) = ((1 : ℝ) : EReal) := rfl
    rw [e1]
    simp only [← EReal.coe_mul, ← EReal.coe_add]
    congr 1
    ring

/-- A real factor goes into both terms of the derivative. -/
theorem through (a u : ℝ) (g : EReal) :
    (a : EReal) * (u * sg g + g * u * (sg g * (1 - sg g))) = a * u * sg g + g * (a * u) * (sg g * (1 - sg g)) := by
  induction g with
  | bot => simp only [sg_bot, zero_mul, mul_zero, add_zero]
  | top => simp only [sg_top, one_sub_one, mul_one, mul_zero, add_zero]
  | coe r =>
    obtain ⟨s, hs⟩ := sg_coe r
    rw [hs, one_sub_coe]
    simp only [← EReal.coe_mul, ← EReal.coe_add]
    congr 1
    ring

/-- A sum of products of reals is a real. -/
theorem dot_real {n : ℕ} (f g : Fin n → EReal) (hf : ∀ k, ∃ r : ℝ, f k = r) (hg : ∀ k, ∃ r : ℝ, g k = r) :
    ∃ r : ℝ, ∑ k, f k * g k = (r : EReal) := by
  choose F hF using hf
  choose H hH using hg
  refine ⟨∑ k, F k * H k, ?_⟩
  simp only [hF, hH, ← EReal.coe_mul]
  classical
  induction (Finset.univ : Finset (Fin n)) using Finset.induction_on with
  | empty => simp
  | insert k s h ih => rw [Finset.sum_insert h, Finset.sum_insert h, ih, EReal.coe_add]

end Cert.Proof.Silu
-- ==== Proof.GateBwdValue.lean ====
module

public import proofs.«01_k».proof.Proof.Silu
public import proofs.«01_k».proof.Proof.Gen.GateBwdIdeal.Value
public import proofs.«01_k».proof.Proof.Gen.GateRefIdeal.Read
public import Idealize.ShloMosaic.Lib.Pipeline.ValueKit
public import Idealize.ShloMosaic.Lib.Pipeline.ReadBack
public import Idealize.ShloMosaic.Lib.Pointwise

@[expose] public section

set_option maxRecDepth 16384

/-! # What the backward of the gated product leaves -/

noncomputable section

namespace Cert.Proof.GateBwd

open Idealize.ShloMosaic Idealize.ShloMosaic.TcCoe Idealize.SL.Sem
open Cert.GateBwdIdeal Cert.GateBwdIdeal.Gen Idealize.ShloMosaic.StableHlo

variable (m : (ℓ : Loc nD τ sig) → Buf (Elt Ideal) ℓ)

theorem idx : ∀ t : Fin cfg0.N, win0_0.index t = ![t.val % 4, 0] ∧ win0_1.index t = ![t.val / 4, 0] ∧ win0_2.index t = ![t.val % 4, t.val / 4]
    ∧ win0_3.index t = ![t.val % 4, t.val / 4] ∧ win0_4.index t = ![t.val % 4, t.val / 4] ∧ win0_5.index t = ![t.val % 4, t.val / 4] :=
  (by decide +kernel : ∀ t : Fin grid0.N, _)

/-- The gradient of the product: a row times a row of the down weight. -/
def da (d : S4096x1024.Idx → EReal) (w : S2816x1024.Idx → EReal) (i : S4096x2816.Idx) : EReal :=
  ∑ k : Fin 1024, d (ix2 (i 0) k) * w (ix2 (i 1) k)

/-- The gate times its logistic, computed before the call. -/
def Us (g : S4096x2816.Idx → EReal) : S4096x2816.Idx → EReal := fun i => g i * Silu.sg (g i)

/-- The other factor times the gate's derivative, computed before the call. -/
def Ud (g u : S4096x2816.Idx → EReal) : S4096x2816.Idx → EReal := fun i =>
  u i * Silu.sg (g i) + g i * u i * (Silu.sg (g i) * (1 - Silu.sg (g i)))

/-- A gradient: that of the product times an array computed before the call. -/
def Gm (d : S4096x1024.Idx → EReal) (w : S2816x1024.Idx → EReal) (s : S4096x2816.Idx → EReal) : S4096x2816.Idx → EReal := fun i =>
  da d w i * s i

theorem us_at (g : EReal) : g * Ideal.div 1 (1 + Ideal.exp (-g)) = g * Silu.sg g := by
  rw [Silu.sg_neg]

theorem ud_at (g u : EReal) : u * Ideal.div 1 (1 + Ideal.exp (-g))
      + g * u * (Ideal.div 1 (1 + Ideal.exp (-g)) * (1 - Ideal.div 1 (1 + Ideal.exp (-g))))
    = u * Silu.sg g + g * u * (Silu.sg g * (1 - Silu.sg g)) := by
  rw [Silu.sg_neg]

theorem V2 (c : Dev nD) : V m c main_v2 = Us (m ((c : Thread nD τ).loc main_arg2)) := by
  simp only [V, hostOps0, hostOps0_1, hostOps0_2, TRef.unary, TRef.binary, TRef.nullary, TRef.toBuf, TRef.ofBuf, cast_eq, List.flatten_cons, List.flatten_nil, List.append_nil, List.cons_append, List.nil_append]
  after_results
  funext i
  pointwise
  exact us_at _

theorem V3 (c : Dev nD) : V m c main_v3 = Ud (m ((c : Thread nD τ).loc main_arg2)) (m ((c : Thread nD τ).loc main_arg3)) := by
  simp only [V, hostOps0, hostOps0_1, hostOps0_2, TRef.unary, TRef.binary, TRef.nullary, TRef.toBuf, TRef.ofBuf, cast_eq, List.flatten_cons, List.flatten_nil, List.append_nil, List.cons_append, List.nil_append]
  after_results
  funext i
  pointwise
  exact ud_at _ _

theorem final4 (c : Dev nD) : (dats m 0 c).arrAt 4 cfg0.N
    = Gm (m ((c : Thread nD τ).loc main_arg0)) (m ((c : Thread nD τ).loc main_arg1)) (Ud (m ((c : Thread nD τ).loc main_arg2)) (m ((c : Thread nD τ).loc main_arg3))) := by
  rw [← V3 m c]
  refine (dats m 0 c).arrAt_eq_of_covers 4 _ (by decide +kernel) fun t hf y => ?_
  blk_simp
  rw [after0_4]
  unfold outsAt0
  frame_out
  canon_tiles x h using View.cover_of_tiledBy _ ![1024, 128] (by sl_kernel_rfl) _
  all_goals
    unfold_payloads
    pointwise [Gm, da, h0, h1]
    blk_point [iblk, V_main_arg0, V_main_arg1, idx t]

theorem final5 (c : Dev nD) : (dats m 0 c).arrAt 5 cfg0.N
    = Gm (m ((c : Thread nD τ).loc main_arg0)) (m ((c : Thread nD τ).loc main_arg1)) (Us (m ((c : Thread nD τ).loc main_arg2))) := by
  rw [← V2 m c]
  refine (dats m 0 c).arrAt_eq_of_covers 5 _ (by decide +kernel) fun t hf y => ?_
  blk_simp
  rw [after0_5]
  unfold outsAt0
  frame_out
  canon_tiles x h using View.cover_of_tiledBy _ ![1024, 128] (by sl_kernel_rfl) _
  all_goals
    unfold_payloads
    pointwise [Gm, da, h0, h1]
    blk_point [iblk, V_main_arg0, V_main_arg1, idx t]

section Reference

open Cert.GateRefIdeal.Read

variable (d : S4096x1024.Idx → EReal) (w : S2816x1024.Idx → EReal) (g u : S4096x2816.Idx → EReal)

theorem ref4 (hd : ∀ i, ∃ r : ℝ, da d w i = (r : EReal)) (hu : ∀ i, ∃ r : ℝ, u i = (r : EReal)) :
    val_main_v9 (F := Ideal) d w g u = Gm d w (Ud g u) := by
  funext i
  pointwise [val_main_v9, val_main_v8, val_main_call1_v0, val_main_call1_v1, val_main_call1_v2, val_main_v7, val_main_v6, val_main_v5, val_main_v4, val_main_v3, val_main_v2, val_main_v0, val_main_v1_0, val_main_v1_1, val_main_v1_2, val_main_call0_v0, val_main_call0_v1, val_main_call0_v2, val_main_call0_v3, val_main_call0_v4, val_main_call0_v6, val_main_call0_v7, val_main_call0_cst, val_main_call0_cst_0, val_main_call0_cst_1]
  refine (congrArg (fun s => da d w i * u i * s + g i * (da d w i * u i) * (s * (1 - s))) (Silu.sg_neg (g i))).trans ?_
  obtain ⟨r, hr⟩ := hu i
  obtain ⟨q, hq⟩ := hd i
  unfold Gm Ud
  rw [hr, hq]
  exact (Silu.through q r (g i)).symm

theorem ref5 : val_main_v10 (F := Ideal) d w g = Gm d w (Us g) := by
  funext i
  pointwise [val_main_v10, val_main_v6, val_main_v5, val_main_v4, val_main_v3, val_main_v2, val_main_v0, val_main_v1_0, val_main_v1_1, val_main_v1_2, val_main_call0_v0, val_main_call0_v1, val_main_call0_v2, val_main_call0_v3, val_main_call0_v4, val_main_call0_v6, val_main_call0_v7, val_main_call0_cst, val_main_call0_cst_0, val_main_call0_cst_1]
  refine (congrArg (fun s => g i * s * da d w i) (Silu.sg_neg (g i))).trans ?_
  exact mul_comm _ _

end Reference

end Cert.Proof.GateBwd
-- ==== Proof.FfnBwdMath.lean ====
module

public import proofs.«01_k».proof.Proof.RmsBwd
public import proofs.«01_k».proof.Proof.Gen.FfnRefIdeal.Read
public import Idealize.ShloMosaic.Lib.Pipeline.ValueKit
public import Idealize.ShloMosaic.Lib.Pipeline.ReadBack
public import Idealize.ShloMosaic.Lib.Pointwise

@[expose] public section

set_option maxRecDepth 16384

/-! # What the backward into the feed-forward block leaves, and its derivative

The gradient of the block's input row by row, in both precisions; that gradient times the output
projection; and the gradient of the norm's gain summed over the eight blocks of rows. The derivative of the plain forward is the same arrays. -/

noncomputable section

namespace Cert.Proof.FfnBwd

open Idealize.ShloMosaic Idealize.ShloMosaic.TcCoe Idealize.SL.Sem
open Cert.FfnRefIdeal Cert.FfnRefIdeal.Read

/-- The gradient of the gained row at a row and a lane: what came through the gate and what came through the other branch. -/
def dhn (a b : S4096x2816.Idx → EReal) (u w : S2816x1024.Idx → EReal) (i : Fin 4096) (j : Fin 1024) : EReal :=
  (∑ k : Fin 2816, a (ix2 i k) * u (ix2 k j)) + ∑ k : Fin 2816, b (ix2 i k) * w (ix2 k j)

/-- The reciprocal root of a row. -/
def rr (x : S4096x1024.Idx → EReal) (i : Fin 4096) : EReal := Ideal.rsqrt (RmsBwd.ms fun k => x (ix2 i k))

/-- The gradient of the block's input at a row and a lane. -/
def dx (a b : S4096x2816.Idx → EReal) (u w : S2816x1024.Idx → EReal) (x d : S4096x1024.Idx → EReal) (g : S1x1024.Idx → EReal)
    (i : Fin 4096) (j : Fin 1024) : EReal :=
  d (ix2 i j) + rr x i * (dhn a b u w i j * g (ix2 0 j) - x (ix2 i j) * rr x i
    * Ideal.div (∑ k : Fin 1024, dhn a b u w i k * g (ix2 0 k) * (x (ix2 i k) * rr x i)) (Ideal.ofBits FTy.f32 1149239296#32))

/-- The gradient of the block's input. -/
def Gx (a b : S4096x2816.Idx → EReal) (u w : S2816x1024.Idx → EReal) (x d : S4096x1024.Idx → EReal) (g : S1x1024.Idx → EReal) :
    S4096x1024.Idx → EReal := fun i => dx a b u w x d g (i 0) (i 1)

/-- That gradient times the output projection. -/
def Gy (a b : S4096x2816.Idx → EReal) (u w : S2816x1024.Idx → EReal) (x d : S4096x1024.Idx → EReal) (g : S1x1024.Idx → EReal)
    (o : S1024x1024.Idx → EReal) : S4096x1024.Idx → EReal := fun i =>
  ∑ k : Fin 1024, dx a b u w x d g (i 0) k * o (ix2 (i 1) k)

/-- The gradient of the gain. -/
def Gg (a b : S4096x2816.Idx → EReal) (u w : S2816x1024.Idx → EReal) (x : S4096x1024.Idx → EReal) : S1x1024.Idx → EReal := fun i =>
  ∑ t : Fin 4096, dhn a b u w t (i 1) * (x (ix2 t (i 1)) * rr x t)

section Reference

variable (a b : S4096x2816.Idx → EReal) (u w : S2816x1024.Idx → EReal) (x d : S4096x1024.Idx → EReal) (g : S1x1024.Idx → EReal)
  (o : S1024x1024.Idx → EReal)

/-- The gradient of the gained row, as automatic differentiation adds it up. -/
theorem ref28 (i : Fin 4096) (j : Fin 1024) : val_main_v28 (F := Ideal) a b u w (ix2 i j) = dhn a b u w i j := by
  pointwise [val_main_v28, val_main_v27, val_main_v26, val_main_v25, val_main_v24, val_main_v0, val_main_v1, val_main_v2, val_main_v3, dhn]
  exact add_comm _ _

theorem ref8_at (p : Fin 4096) (q : Fin 1024) : val_main_v49 (F := Ideal) a b u w x d g (ix2 p q) = dx a b u w x d g p q := by
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1, val_main_cst_2, val_main_cst_3, val_main_cst_4, val_main_cst_5, val_main_cst_6, val_main_cst_7, val_main_cst_8, Gx]
  simp only [Ideal.ofBits_zero_f32, zero_add, Finset.univ_unique, Finset.sum_singleton]
  simp only [ref28]
  have h := RmsBwd.grad (fun k => x (ix2 p k)) (fun k => dhn a b u w p k * g (ix2 0 k)) q
  unfold dx rr
  refine Eq.trans ?_ (congrArg (d (ix2 p q) + ·) h)
  simp only [add_assoc]
  rfl

theorem ref8 : val_main_v49 (F := Ideal) a b u w x d g = Gx a b u w x d g := by
  funext i
  rw [← ix2_eta i]
  exact ref8_at a b u w x d g _ _

theorem ref9 : val_main_v54 (F := Ideal) a b u w x d g = Gx a b u w x d g := ref8 a b u w x d g

theorem ref10 : val_main_v53 (F := Ideal) a b u w x d g o = Gy a b u w x d g o := by
  funext i
  pointwise [val_main_v53, val_main_v4, Gy]
  exact Fin.sum_fin_congr fun k => congrArg (· * o (ix2 (i 1) k)) (ref8_at a b u w x d g (i 0) k)

theorem ref11 : val_main_v50 (F := Ideal) a b u w x = Gg a b u w x := by
  funext i
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1, val_main_cst_2, val_main_cst_3, val_main_cst_4, val_main_cst_5, val_main_cst_6, val_main_cst_7, val_main_cst_8, Gg]
  simp only [Ideal.ofBits_zero_f32, zero_add, Finset.univ_unique, Finset.sum_singleton]
  exact Fin.sum_fin_congr fun k => (mul_comm _ _).trans (congrArg (· * (x (ix2 k (i 1)) * rr x k)) (ref28 a b u w k (i 1)))

end Reference

end Cert.Proof.FfnBwd
-- ==== Proof.FfnBwdValue.lean ====
module

public import proofs.«01_k».proof.Proof.FfnBwdMath
public import proofs.«01_k».proof.Proof.Gen.FfnBwdIdeal.Value
public import Idealize.ShloMosaic.Lib.Pipeline.ValueKit
public import Idealize.ShloMosaic.Lib.Pipeline.ReadBack
public import Idealize.ShloMosaic.Lib.Pointwise

@[expose] public section

set_option maxRecDepth 16384

/-! # What the backward into the feed-forward block leaves

The gradient of the block's input row by row, in both precisions; that gradient times the output
projection; and the gradient of the norm's gain summed over the eight blocks of rows. -/

noncomputable section

namespace Cert.Proof.FfnBwd

open Idealize.ShloMosaic Idealize.ShloMosaic.TcCoe Idealize.SL.Sem
open Cert.FfnBwdIdeal Cert.FfnBwdIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, 0] :=
  (by decide +kernel : ∀ t : Fin grid0.N, _)

theorem out8 (c : Dev nD) (t : Fin cfg0.N) : (outsAt0 m c t.val t.isLt).1
    = k0_pay8 (iblk m c 0 t) (iblk m c 2 t) (iblk m c 1 t) (iblk m c 3 t) (iblk m c 4 t) (iblk m c 6 t) (iblk m c 5 t) := by
  have hN : t.val < 8 := lt_of_lt_of_eq t.isLt N_0
  by_cases h : t.val % 8 = 0
  · rw [outsAt0_A m c t h (by omega)]
    frame_out
  · rw [outsAt0_B m c t h (by omega)]
    frame_out

theorem out9 (c : Dev nD) (t : Fin cfg0.N) : (outsAt0 m c t.val t.isLt).2.1
    = k0_pay9 (iblk m c 0 t) (iblk m c 2 t) (iblk m c 1 t) (iblk m c 3 t) (iblk m c 4 t) (iblk m c 6 t) (iblk m c 5 t) := by
  have hN : t.val < 8 := lt_of_lt_of_eq t.isLt N_0
  by_cases h : t.val % 8 = 0
  · rw [outsAt0_A m c t h (by omega)]
    frame_out
  · rw [outsAt0_B m c t h (by omega)]
    frame_out

theorem out10 (c : Dev nD) (t : Fin cfg0.N) : (outsAt0 m c t.val t.isLt).2.2.1
    = k0_pay1 (k0_pay9 (iblk m c 0 t) (iblk m c 2 t) (iblk m c 1 t) (iblk m c 3 t) (iblk m c 4 t) (iblk m c 6 t) (iblk m c 5 t)) (iblk m c 7 t) := by
  have hN : t.val < 8 := lt_of_lt_of_eq t.isLt N_0
  by_cases h : t.val % 8 = 0
  · rw [outsAt0_A m c t h (by omega)]
    frame_out
  · rw [outsAt0_B m c t h (by omega)]
    frame_out

theorem final8 (c : Dev nD) : (dats m 0 c).arrAt 8 cfg0.N
    = Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8, out8]
  unfold_payloads
  pointwise [Gx, dx, dhn, rr, RmsBwd.ms]
  blk_point [iblk, V, idx t]

theorem final9 (c : Dev nD) : (dats m 0 c).arrAt 9 cfg0.N
    = Gx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9, out9]
  unfold_payloads
  pointwise [Gx, dx, dhn, rr, RmsBwd.ms]
  blk_point [iblk, V, idx t]

theorem final10 (c : Dev nD) : (dats m 0 c).arrAt 10 cfg0.N
    = Gy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp
  rw [after0_10, out10]
  unfold_payloads
  pointwise [Gy, dx, dhn, rr, RmsBwd.ms]
  blk_point [iblk, V, idx t]

theorem final11 (c : Dev nD) : (dats m 0 c).arrAt 11 cfg0.N
    = Gg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 11 t0_7 (by decide +kernel) _ fun j => ?_
  blk_simp
  rw [after0_11, Pipeline.eq_sum_fin_of_reset_step_apply_last (fun n h => (outsAt0 m c n h).2.2.2) 8 (fun _ => 0)
    (fun t j => k0_pay2 (k0_pay7 (iblk m c 0 t) (iblk m c 2 t) (iblk m c 1 t) (iblk m c 3 t) (iblk m c 4 t)) j)
    (fun t h j => by
      rw [outsAt0_A m c t h (by have := lt_of_lt_of_eq t.isLt N_0; omega)]
      frame_out
      exact (zero_add _).symm)
    (fun t h j => by
      rw [outsAt0_B m c t h (by omega)]
      frame_out
      pointwise [k0_pay3, k0_pay2]) (le_of_eq N_0) t0_7 rfl j, zero_add]
  unfold_payloads
  pointwise [Gg, dhn, rr, RmsBwd.ms]
  refine Fin.sum_mul_add_congr fun t k hl => ?_
  blk_point [iblk, V, idx t]

end Cert.Proof.FfnBwd
-- ==== Proof.WDownValue.lean ====
/- What the weight gradient's program leaves in its result array, element by element, and that the reference leaves the same. -/
module

public import proofs.«01_k».proof.Proof.Gen.WDownIdeal.Value
public import proofs.«01_k».proof.Proof.Gen.WDownRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WDown

open Idealize.ShloMosaic Idealize.ShloMosaic.TcCoe Idealize.SL.Sem
open Cert.WDownIdeal Cert.WDownIdeal.Gen

variable (m : (ℓ : Loc nD τ sig) → Buf (Elt Ideal) ℓ)

/-- The weight gradient at an element: the sum over all rows of the two operands' products. -/
def G (x : S4096x2816.Idx → EReal) (d : S4096x1024.Idx → EReal) : S2816x1024.Idx → EReal := fun i =>
  ∑ k : Fin 4096, x (ix2 k (i 0)) * d (ix2 k (i 1))

/-- Where the windows' blocks lie: the two operands' at row block `t % 2`, the result's at block `t / 2`. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- What a point leaves depends on its number alone. -/
theorem outs_of_val (c : Dev nD) (n : ℕ) (h : n < cfg0.N) (s : Fin cfg0.N) (hs : s.val = n) : outsAt0 m c n h = outsAt0 m c s.val s.isLt := by
  subst hs; rfl

/-- The result array of the kernel: `G` of its operands. Each block is the sum over two points of a half of the rows each. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  have hm : t.val % 2 = 1 := (flush0_2 t).mp hf
  rw [after0_2, outsAt0_B m c t (by omega) hm hm]
  obtain ⟨s, hs⟩ : ∃ s : Fin cfg0.N, s.val = t.val - 1 := ⟨⟨t.val - 1, lt_of_le_of_lt (Nat.sub_le _ _) t.isLt⟩, rfl⟩
  rw [outs_of_val m c (t.val - 1) _ s hs, outsAt0_A m c s (by omega) (by omega) (by omega)]
  frame_out
  rw [read_unread_whole]
  unfold_payloads
  pointwise [G]
  rw [Fin.sum_univ_two_halves 2048 2048 rfl]
  blk_point [iblk, V, idx t, idx s]

open Cert.WDownRefIdeal.Read in
/-- The reference's result is the same sum. -/
theorem ref (x : S4096x2816.Idx → EReal) (d : S4096x1024.Idx → EReal) : val_main_v6 (F := Ideal) x d = G x d := by
  funext i
  pointwise [val_main_v6, val_main_v5, val_main_v4, val_main_v0, val_main_v1, G]
  exact Fin.sum_fin_congr fun k => mul_comm _ _

end Cert.Proof.WDown
-- ==== Proof.InProjValue.lean ====
module

public import proofs.«01_k».proof.Proof.Gen.InProjIdeal.Value
public import proofs.«01_k».proof.Proof.Gen.InProjRefIdeal.Read
public import Idealize.ShloMosaic.Lib.Pipeline.ValueKit
public import Idealize.ShloMosaic.Lib.Pipeline.ReadBack
public import Idealize.ShloMosaic.Lib.Pointwise

@[expose] public section

set_option maxRecDepth 16384

/-! # What the input projection leaves: the norm of the input with the gain, and its product with the weight -/

noncomputable section

namespace Cert.Proof.InProj

open Idealize.ShloMosaic Idealize.ShloMosaic.TcCoe Idealize.SL.Sem
open Cert.InProjIdeal Cert.InProjIdeal.Gen Cert.InProjRefIdeal.Read

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

theorem final4 (c : Dev nD) : (dats m 0 c).arrAt 4 cfg0.N
    = val_main_v20 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold_payloads
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

theorem final5 (c : Dev nD) : (dats m 0 c).arrAt 5 cfg0.N
    = val_main_v21 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  unfold_payloads
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

end Cert.Proof.InProj
-- ==== Proof.OutProjValue.lean ====
module

public import proofs.«01_k».proof.Proof.Gen.OutProjIdeal.Value
public import proofs.«01_k».proof.Proof.Gen.OutProjRefIdeal.Read
public import Idealize.ShloMosaic.Lib.Pipeline.ValueKit
public import Idealize.ShloMosaic.Lib.Pipeline.ReadBack
public import Idealize.ShloMosaic.Lib.Pointwise

@[expose] public section

set_option maxRecDepth 16384

/-! # What the output projection leaves: the residual sum, and its norm with the gain -/

noncomputable section

namespace Cert.Proof.OutProj

open Idealize.ShloMosaic Idealize.ShloMosaic.TcCoe Idealize.SL.Sem
open Cert.OutProjIdeal Cert.OutProjIdeal.Gen Cert.OutProjRefIdeal.Read

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

theorem final4 (c : Dev nD) : (dats m 0 c).arrAt 4 cfg0.N
    = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  unfold_payloads
  pointwise [val_main_v3, val_main_v2, val_main_v1, val_main_v0]
  blk_point [iblk, V, idx t]

theorem final5 (c : Dev nD) : (dats m 0 c).arrAt 5 cfg0.N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  unfold_payloads
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

end Cert.Proof.OutProj
-- ==== Proof.GateUpValue.lean ====
module

public import proofs.«01_k».proof.Proof.Silu
public import proofs.«01_k».proof.Proof.Gen.GateUpIdeal.Value
public import proofs.«01_k».proof.Proof.Gen.GateUpRefIdeal.Read
public import Idealize.ShloMosaic.Lib.Pipeline.ValueKit
public import Idealize.ShloMosaic.Lib.Pipeline.ReadBack
public import Idealize.ShloMosaic.Lib.Pointwise

@[expose] public section

set_option maxRecDepth 16384

/-! # What the gate and up projections leave -/

noncomputable section

namespace Cert.Proof.GateUp

open Idealize.ShloMosaic Idealize.ShloMosaic.TcCoe Idealize.SL.Sem
open Cert.GateUpIdeal Cert.GateUpIdeal.Gen

variable (m : (ℓ : Loc nD τ sig) → Buf (Elt Ideal) ℓ)

theorem idx : ∀ t : Fin cfg0.N, win0_0.index t = ![t.val % 4, 0] ∧ win0_1.index t = ![t.val / 4, 0] ∧ win0_2.index t = ![t.val / 4, 0]
    ∧ win0_3.index t = ![t.val % 4, t.val / 4] ∧ win0_4.index t = ![t.val % 4, t.val / 4] ∧ win0_5.index t = ![t.val % 4, t.val / 4] :=
  (by decide +kernel : ∀ t : Fin grid0.N, _)

/-- A row times a row of the transposed weight. -/
def dot (x : S4096x1024.Idx → EReal) (w : S2816x1024.Idx → EReal) (i : S4096x2816.Idx) : EReal :=
  ∑ k : Fin 1024, x (ix2 (i 0) k) * w (ix2 (i 1) k)

/-- The gate times its logistic. -/
def Gs (x : S4096x1024.Idx → EReal) (w : S2816x1024.Idx → EReal) : S4096x2816.Idx → EReal := fun i =>
  dot x w i * Silu.sg (dot x w i)

/-- The other factor times the gate's derivative. -/
def Gd (x : S4096x1024.Idx → EReal) (w u : S2816x1024.Idx → EReal) : S4096x2816.Idx → EReal := fun i =>
  dot x u i * (Silu.sg (dot x w i) * (1 + dot x w i * (1 - Silu.sg (dot x w i))))

/-- The gated product. -/
def Ga (x : S4096x1024.Idx → EReal) (w u : S2816x1024.Idx → EReal) : S4096x2816.Idx → EReal := fun i =>
  dot x w i * Silu.sg (dot x w i) * dot x u i

theorem final3 (c : Dev nD) : (dats m 0 c).arrAt 3 cfg0.N
    = Gs (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  canon_tiles x h using View.cover_of_tiledBy _ ![1024, 128] (by sl_kernel_rfl) _
  all_goals
    unfold_payloads
    pointwise [Gs, dot, Silu.sg, h0, h1]
    blk_point [iblk, V, idx t]

theorem final4 (c : Dev nD) : (dats m 0 c).arrAt 4 cfg0.N
    = Gd (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  frame_out
  canon_tiles x h using View.cover_of_tiledBy _ ![1024, 128] (by sl_kernel_rfl) _
  all_goals
    unfold_payloads
    pointwise [Gd, dot, Silu.sg, h0, h1]
    blk_point [iblk, V, idx t]

theorem final5 (c : Dev nD) : (dats m 0 c).arrAt 5 cfg0.N
    = Ga (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  frame_out
  canon_tiles x h using View.cover_of_tiledBy _ ![1024, 128] (by sl_kernel_rfl) _
  all_goals
    unfold_payloads
    pointwise [Ga, dot, Silu.sg, h0, h1]
    blk_point [iblk, V, idx t]

section Reference

open Cert.GateUpRefIdeal.Read

variable (x : S4096x1024.Idx → EReal) (w u : S2816x1024.Idx → EReal)

theorem ref3 : val_main_v9 (F := Ideal) x w = Gs x w := by
  funext i
  pointwise [val_main_v9, val_main_v6, val_main_v5, val_main_v4, val_main_v3, val_main_v2, val_main_v1, val_main_v0, val_main_v7_0, val_main_v7_1, val_main_v7_2, val_main_call0_v0, val_main_call0_v1, val_main_call0_v2, val_main_call0_v3, val_main_call0_v4, val_main_call0_v6, val_main_call0_v7, val_main_call0_cst, val_main_call0_cst_0, val_main_call0_cst_1]
  exact congrArg (fun s => dot x w i * s) (Silu.sg_neg (dot x w i))

theorem ref4 (hu : ∀ i, ∃ r : ℝ, dot x u i = (r : EReal)) : val_main_v10 (F := Ideal) x w u = Gd x w u := by
  funext i
  pointwise [val_main_v10, val_main_v8, val_main_call1_v0, val_main_call1_v1, val_main_call1_v2, val_main_v6, val_main_v5, val_main_v4, val_main_v3, val_main_v2, val_main_v1, val_main_v0, val_main_v7_0, val_main_v7_1, val_main_v7_2, val_main_call0_v0, val_main_call0_v1, val_main_call0_v2, val_main_call0_v3, val_main_call0_v4, val_main_call0_v6, val_main_call0_v7, val_main_call0_cst, val_main_call0_cst_0, val_main_call0_cst_1]
  refine (congrArg (fun s => dot x u i * s + dot x w i * dot x u i * (s * (1 - s))) (Silu.sg_neg (dot x w i))).trans ?_
  obtain ⟨r, hr⟩ := hu i
  unfold Gd
  rw [hr]
  exact (Silu.split r (dot x w i)).symm

theorem ref5 : val_main_v12 (F := Ideal) x w u = Ga x w u := by
  funext i
  pointwise [val_main_v12, val_main_v11, val_main_v10, val_main_v6, val_main_v5, val_main_v4, val_main_v3, val_main_v2, val_main_v1, val_main_v0, val_main_v7_0, val_main_v7_1, val_main_v7_2, val_main_call0_v0, val_main_call0_v1, val_main_call0_v2, val_main_call0_v3, val_main_call0_v4, val_main_call0_v6, val_main_call0_v7, val_main_call0_cst, val_main_call0_cst_0, val_main_call0_cst_1]
  exact congrArg (fun s => dot x w i * s * dot x u i) (Silu.sg_neg (dot x w i))

end Reference

end Cert.Proof.GateUp
-- ==== Proof.DownLossMath.lean ====
module

public import proofs.«01_k».proof.Proof.RmsBwd
public import proofs.«01_k».proof.Proof.Gen.DownLossRefIdeal.Read
public import Idealize.ShloMosaic.Lib.Pipeline.ValueKit
public import Idealize.ShloMosaic.Lib.Pipeline.ReadBack
public import Idealize.ShloMosaic.Lib.Pointwise

@[expose] public section

set_option maxRecDepth 16384

/-! # What the end of the forward leaves, and its derivative

The last product and residual of the feed-forward block give the step's last row; from it come the loss, the gradient of
that row in both precisions, and the gradient of the last norm's gain. The plain loss and its derivative are the same arrays. -/

noncomputable section

namespace Cert.Proof.DownLoss

open Idealize.ShloMosaic Idealize.ShloMosaic.TcCoe Idealize.SL.Sem
open Cert.DownLossRefIdeal Cert.DownLossRefIdeal.Read

/-- The last row at a lane: the residual plus the down projection. -/
def h2 (a : S4096x2816.Idx → EReal) (w : S2816x1024.Idx → EReal) (h : S4096x1024.Idx → EReal) (i : Fin 4096) (j : Fin 1024) : EReal :=
  h (ix2 i j) + ∑ k : Fin 2816, a (ix2 i k) * w (ix2 k j)

/-- The reciprocal root of a row. -/
def rr (a : S4096x2816.Idx → EReal) (w : S2816x1024.Idx → EReal) (h : S4096x1024.Idx → EReal) (i : Fin 4096) : EReal :=
  Ideal.rsqrt (RmsBwd.ms fun k => h2 a w h i k)

/-- The difference from the target. -/
def df (a : S4096x2816.Idx → EReal) (w : S2816x1024.Idx → EReal) (h t : S4096x1024.Idx → EReal) (g : S1x1024.Idx → EReal)
    (i : Fin 4096) (j : Fin 1024) : EReal :=
  h2 a w h i j * rr a w h i * g (ix2 0 j) - t (ix2 i j)

/-- The gradient of the loss in the gained row: the difference over the number of lanes. -/
def dd (a : S4096x2816.Idx → EReal) (w : S2816x1024.Idx → EReal) (h t : S4096x1024.Idx → EReal) (g : S1x1024.Idx → EReal)
    (i : Fin 4096) (j : Fin 1024) : EReal :=
  df a w h t g i j * Ideal.ofBits FTy.f32 981467136#32

/-- The gradient of the last row at a lane. -/
def dx (a : S4096x2816.Idx → EReal) (w : S2816x1024.Idx → EReal) (h t : S4096x1024.Idx → EReal) (g : S1x1024.Idx → EReal)
    (i : Fin 4096) (j : Fin 1024) : EReal :=
  rr a w h i * (dd a w h t g i j * g (ix2 0 j) - h2 a w h i j * rr a w h i
    * Ideal.div (∑ k : Fin 1024, dd a w h t g i k * g (ix2 0 k) * (h2 a w h i k * rr a w h i)) (Ideal.ofBits FTy.f32 1149239296#32))

/-- The gradient of the last row. -/
def Gx (a : S4096x2816.Idx → EReal) (w : S2816x1024.Idx → EReal) (h t : S4096x1024.Idx → EReal) (g : S1x1024.Idx → EReal) :
    S4096x1024.Idx → EReal := fun i => dx a w h t g (i 0) (i 1)

/-- The gradient of the gain. -/
def Gg (a : S4096x2816.Idx → EReal) (w : S2816x1024.Idx → EReal) (h t : S4096x1024.Idx → EReal) (g : S1x1024.Idx → EReal) :
    S1x1024.Idx → EReal := fun i => ∑ r : Fin 4096, dd a w h t g r (i 1) * (h2 a w h r (i 1) * rr a w h r)

/-- The sum of the squared differences of a row. -/
def sq (a : S4096x2816.Idx → EReal) (w : S2816x1024.Idx → EReal) (h t : S4096x1024.Idx → EReal) (g : S1x1024.Idx → EReal)
    (r : Fin 4096) : EReal := ∑ k : Fin 1024, df a w h t g r k * df a w h t g r k

/-- The loss: half the sum over the rows of the mean squared difference, as the kernel scales it, in every lane. -/
def Gl (a : S4096x2816.Idx → EReal) (w : S2816x1024.Idx → EReal) (h t : S4096x1024.Idx → EReal) (g : S1x1024.Idx → EReal) :
    S1x128.Idx → EReal := fun _ => ∑ r : Fin 4096, sq a w h t g r * Ideal.ofBits FTy.f32 973078528#32

theorem c1 : Ideal.ofBits FTy.f32 981467136#32 = (((1024 : ℝ)⁻¹ : ℝ) : EReal) := by
  simp [Ideal.ofBits, Ideal.ieee, -EReal.coe_mul]
  norm_num

theorem c2 : Ideal.ofBits FTy.f32 973078528#32 = ((2048⁻¹ : ℝ) : EReal) := by
  simp [Ideal.ofBits, Ideal.ieee, -EReal.coe_mul]
  norm_num

theorem two : Ideal.ofBits FTy.f32 1073741824#32 = ((2 : ℝ) : EReal) := by
  simp [Ideal.ofBits, Ideal.ieee, -EReal.coe_mul]
  norm_num

theorem half : Ideal.ofBits FTy.f32 1056964608#32 = ((2⁻¹ : ℝ) : EReal) := by
  simp [Ideal.ofBits, Ideal.ieee, -EReal.coe_mul]
  norm_num

/-- The factors that automatic differentiation brings make one over the number of lanes. -/
theorem cot (z : EReal) : Ideal.div (Ideal.ofBits FTy.f32 1056964608#32) (Ideal.ofBits FTy.f32 1149239296#32)
      * (Ideal.ofBits FTy.f32 1073741824#32 * z) = z * Ideal.ofBits FTy.f32 981467136#32 := by
  rw [RmsBwd.lanes, RmsBwd.div_coe _ _ (by norm_num), c1, two, half, ← mul_assoc, mul_comm z, ← EReal.coe_mul, ← EReal.coe_mul]
  congr 2
  norm_num

/-- Half of a sum of means is the sum of the scaled sums. -/
theorem mean (f : Fin 4096 → EReal) : Ideal.ofBits FTy.f32 1056964608#32 * ∑ r, Ideal.div (f r) (Ideal.ofBits FTy.f32 1149239296#32)
    = ∑ r, f r * Ideal.ofBits FTy.f32 973078528#32 := by
  rw [half, ← RmsBwd.scale_sum _ _ (by norm_num)]
  refine Finset.sum_congr rfl fun r _ => ?_
  rw [RmsBwd.lanes, RmsBwd.div_coe _ _ (by norm_num), c2, mul_comm, mul_assoc, ← EReal.coe_mul]
  congr 2
  norm_num

/-- The scale of a block's sum is the scale of each row. -/
theorem scaled (f : Fin 512 → EReal) : (∑ r, f r) * Ideal.ofBits FTy.f32 973078528#32 = ∑ r, f r * Ideal.ofBits FTy.f32 973078528#32 := by
  rw [c2, mul_comm, ← RmsBwd.scale_sum _ _ (by norm_num)]
  exact Finset.sum_congr rfl fun r _ => mul_comm _ _

section Reference

variable (a : S4096x2816.Idx → EReal) (w : S2816x1024.Idx → EReal) (h t : S4096x1024.Idx → EReal) (g : S1x1024.Idx → EReal)

theorem ref3 (p : Fin 4096) (q : Fin 1024) : val_main_v3 (F := Ideal) a w h (ix2 p q) = h2 a w h p q := by
  pointwise [val_main_v3, val_main_v2, val_main_v1, val_main_v0, h2]

theorem root (p : Fin 4096) : Ideal.rsqrt (Ideal.div (∑ k : Fin 1024, val_main_v3 (F := Ideal) a w h (ix2 p k) * val_main_v3 (F := Ideal) a w h (ix2 p k))
      (Ideal.ofBits FTy.f32 1149239296#32) + Ideal.ofBits FTy.f32 897988541#32) = rr a w h p := by
  simp only [ref3]
  rfl

theorem ref21 (p : Fin 4096) (q : Fin 1024) : val_main_v21 (F := Ideal) a w h t g (ix2 p q) = df a w h t g p q := by
  pointwise [val_main_v21, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v39, val_main_v38, val_main_v37, val_main_v36, val_main_v34, val_main_v33, val_main_v32, val_main_v31, val_main_v30, val_main_v29, val_main_v28, val_main_v27, val_main_v26, val_main_v25, val_main_v24, val_main_v23, val_main_v22, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [Ideal.ofBits_zero_f32, zero_add, Finset.univ_unique, Finset.sum_singleton, ref3]
  rfl

theorem ref35 (p : Fin 4096) (q : Fin 1024) : val_main_v35 (F := Ideal) a w h t g (ix2 p q) = dd a w h t g p q := by
  pointwise [val_main_v35, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v39, val_main_v38, val_main_v37, val_main_v36, val_main_v34, val_main_v33, val_main_v32, val_main_v31, val_main_v30, val_main_v29, val_main_v28, val_main_v27, val_main_v26, val_main_v25, val_main_v24, val_main_v23, val_main_v22, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [ref21]
  exact cot _

theorem ref40 (p : Fin 4096) (q : Fin 1024) : val_main_v40 (F := Ideal) a w h t g (ix2 p q) = dd a w h t g p q * g (ix2 0 q) := by
  pointwise [val_main_v40, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v39, val_main_v38, val_main_v37, val_main_v36, val_main_v34, val_main_v33, val_main_v32, val_main_v31, val_main_v30, val_main_v29, val_main_v28, val_main_v27, val_main_v26, val_main_v25, val_main_v24, val_main_v23, val_main_v22, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  exact congrArg (· * g (ix2 0 q)) (ref35 a w h t g p q)

theorem ref5_at (p : Fin 4096) (q : Fin 1024) : val_main_v55 (F := Ideal) a w h t g (ix2 p q) = dx a w h t g p q := by
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v39, val_main_v38, val_main_v37, val_main_v36, val_main_v34, val_main_v33, val_main_v32, val_main_v31, val_main_v30, val_main_v29, val_main_v28, val_main_v27, val_main_v26, val_main_v25, val_main_v24, val_main_v23, val_main_v22, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [Ideal.ofBits_zero_f32, zero_add, Finset.univ_unique, Finset.sum_singleton]
  simp only [ref40, ref3]
  have e := RmsBwd.grad (fun k => h2 a w h p k) (fun k => dd a w h t g p k * g (ix2 0 k)) q
  unfold dx rr
  exact e

theorem ref5 : val_main_v55 (F := Ideal) a w h t g = Gx a w h t g := by
  funext i
  rw [← ix2_eta i]
  exact ref5_at a w h t g _ _

theorem ref6 : val_main_v57 (F := Ideal) a w h t g = Gx a w h t g := ref5 a w h t g

theorem ref8 : val_main_v56 (F := Ideal) a w h t g = Gg a w h t g := by
  funext i
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v39, val_main_v38, val_main_v37, val_main_v36, val_main_v34, val_main_v33, val_main_v32, val_main_v31, val_main_v30, val_main_v29, val_main_v28, val_main_v27, val_main_v26, val_main_v25, val_main_v24, val_main_v23, val_main_v22, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, Gg]
  simp only [Ideal.ofBits_zero_f32, zero_add, Finset.univ_unique, Finset.sum_singleton]
  exact Fin.sum_fin_congr fun k => (mul_comm _ _).trans
    (congrArg₂ (· * ·) (ref35 a w h t g k (i 1)) (congrArg₂ (· * ·) (ref3 a w h k (i 1)) (root a w h k)))

theorem ref7 : val_main_v58 (F := Ideal) a w h t g = Gl a w h t g := by
  funext i
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v39, val_main_v38, val_main_v37, val_main_v36, val_main_v34, val_main_v33, val_main_v32, val_main_v31, val_main_v30, val_main_v29, val_main_v28, val_main_v27, val_main_v26, val_main_v25, val_main_v24, val_main_v23, val_main_v22, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, Gl]
  refine Eq.trans ?_ (mean fun r => sq a w h t g r)
  refine congrArg (Ideal.ofBits FTy.f32 1056964608#32 * ·) (Finset.sum_congr rfl fun r _ => ?_)
  simp only [ref21]
  rfl

end Reference

end Cert.Proof.DownLoss
-- ==== Proof.DownLossValue.lean ====
module

public import proofs.«01_k».proof.Proof.DownLossMath
public import proofs.«01_k».proof.Proof.Gen.DownLossIdeal.Value
public import Idealize.ShloMosaic.Lib.Pipeline.ValueKit
public import Idealize.ShloMosaic.Lib.Pipeline.ReadBack
public import Idealize.ShloMosaic.Lib.Pointwise

@[expose] public section

set_option maxRecDepth 16384

/-! # What the kernel at the end of the forward leaves

The gradient of the last row by blocks of rows, in both precisions; the loss and the gradient of the norm's gain summed
over the eight blocks. -/

noncomputable section

namespace Cert.Proof.DownLoss

open Idealize.ShloMosaic Idealize.ShloMosaic.TcCoe Idealize.SL.Sem
open Cert.DownLossIdeal Cert.DownLossIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

theorem out5 (c : Dev nD) (t : Fin cfg0.N) : (outsAt0 m c t.val t.isLt).1
    = k0_pay3 (k0_pay7 (iblk m c 2 t) (iblk m c 0 t) (iblk m c 1 t)) (iblk m c 4 t)
      (k0_pay11 (iblk m c 2 t) (iblk m c 0 t) (iblk m c 1 t) (iblk m c 4 t) (iblk m c 3 t)) (k0_pay12 (iblk m c 2 t) (iblk m c 0 t) (iblk m c 1 t)) := by
  have hN : t.val < 8 := lt_of_lt_of_eq t.isLt N_0
  by_cases h : t.val % 8 = 0
  · rw [outsAt0_A m c t h (by omega) h (by omega)]
    frame_out
  · rw [outsAt0_B m c t h (by omega) h (by omega)]
    frame_out

theorem final5 (c : Dev nD) : (dats m 0 c).arrAt 5 cfg0.N
    = Gx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out5]
  unfold_payloads
  pointwise [Gx, dx, dd, df, h2, rr, RmsBwd.ms]
  blk_point [iblk, V, idx t]

theorem out6 (c : Dev nD) (t : Fin cfg0.N) : (outsAt0 m c t.val t.isLt).2.1
    = k0_pay4 (k0_pay7 (iblk m c 2 t) (iblk m c 0 t) (iblk m c 1 t)) (iblk m c 4 t)
      (k0_pay11 (iblk m c 2 t) (iblk m c 0 t) (iblk m c 1 t) (iblk m c 4 t) (iblk m c 3 t)) (k0_pay12 (iblk m c 2 t) (iblk m c 0 t) (iblk m c 1 t)) := by
  have hN : t.val < 8 := lt_of_lt_of_eq t.isLt N_0
  by_cases h : t.val % 8 = 0
  · rw [outsAt0_A m c t h (by omega) h (by omega)]
    frame_out
  · rw [outsAt0_B m c t h (by omega) h (by omega)]
    frame_out

theorem final6 (c : Dev nD) : (dats m 0 c).arrAt 6 cfg0.N
    = Gx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, out6]
  unfold_payloads
  pointwise [Gx, dx, dd, df, h2, rr, RmsBwd.ms]
  blk_point [iblk, V, idx t]

theorem final7 (c : Dev nD) : (dats m 0 c).arrAt 7 cfg0.N
    = Gl (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun t j => k0_pay9 (iblk m c 2 t) (iblk m c 0 t) (iblk m c 1 t) (iblk m c 4 t) (iblk m c 3 t) j)
    (fun t h j => by
      have := lt_of_lt_of_eq t.isLt N_0
      rw [outsAt0_A m c t h (by omega) h (by omega)]
      frame_out
      exact (zero_add _).symm)
    (fun t h j => by
      rw [outsAt0_B m c t h (by omega) h (by omega)]
      frame_out
      pointwise [k0_pay10]) (le_of_eq N_0) t0_7 rfl j, zero_add]
  unfold_payloads
  pointwise [Gl, sq, df, h2, rr, RmsBwd.ms]
  refine (Finset.sum_congr rfl fun x _ => scaled _).trans ?_
  refine Fin.sum_mul_add_congr fun t k hl => ?_
  blk_point [iblk, V, idx t]

theorem final8 (c : Dev nD) : (dats m 0 c).arrAt 8 cfg0.N
    = Gg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun t j => k0_pay5 (k0_pay7 (iblk m c 2 t) (iblk m c 0 t) (iblk m c 1 t))
      (k0_pay11 (iblk m c 2 t) (iblk m c 0 t) (iblk m c 1 t) (iblk m c 4 t) (iblk m c 3 t)) (k0_pay12 (iblk m c 2 t) (iblk m c 0 t) (iblk m c 1 t)) j)
    (fun t h j => by
      have := lt_of_lt_of_eq t.isLt N_0
      rw [outsAt0_A m c t h (by omega) h (by omega)]
      frame_out
      exact (zero_add _).symm)
    (fun t h j => by
      rw [outsAt0_B m c t h (by omega) h (by omega)]
      frame_out
      pointwise [k0_pay6]) (le_of_eq N_0) t0_7 rfl j, zero_add]
  unfold_payloads
  pointwise [Gg, dd, df, h2, rr, RmsBwd.ms]
  refine Fin.sum_mul_add_congr fun t k hl => ?_
  blk_point [iblk, V, idx t]

end Cert.Proof.DownLoss
-- ==== Proof.WOutValue.lean ====
/- What the weight gradient's program leaves in its result array, element by element, and that the reference leaves the same. -/
module

public import proofs.«01_k».proof.Proof.Gen.WOutIdeal.Value
public import proofs.«01_k».proof.Proof.Gen.WOutRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WOut

open Idealize.ShloMosaic Idealize.ShloMosaic.TcCoe Idealize.SL.Sem
open Cert.WOutIdeal Cert.WOutIdeal.Gen

variable (m : (ℓ : Loc nD τ sig) → Buf (Elt Ideal) ℓ)

/-- The weight gradient at an element: the sum over all rows of the two operands' products. -/
def G (x : S4096x1024.Idx → EReal) (d : S4096x1024.Idx → EReal) : S1024x1024.Idx → EReal := fun i =>
  ∑ k : Fin 4096, x (ix2 k (i 0)) * d (ix2 k (i 1))

/-- Where the windows' blocks lie: the two operands' at row block `t % 2`, the result's at block `t / 2`. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- What a point leaves depends on its number alone. -/
theorem outs_of_val (c : Dev nD) (n : ℕ) (h : n < cfg0.N) (s : Fin cfg0.N) (hs : s.val = n) : outsAt0 m c n h = outsAt0 m c s.val s.isLt := by
  subst hs; rfl

/-- The result array of the kernel: `G` of its operands. Each block is the sum over two points of a half of the rows each. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  have hm : t.val % 2 = 1 := (flush0_2 t).mp hf
  rw [after0_2, outsAt0_B m c t (by omega) hm hm]
  obtain ⟨s, hs⟩ : ∃ s : Fin cfg0.N, s.val = t.val - 1 := ⟨⟨t.val - 1, lt_of_le_of_lt (Nat.sub_le _ _) t.isLt⟩, rfl⟩
  rw [outs_of_val m c (t.val - 1) _ s hs, outsAt0_A m c s (by omega) (by omega) (by omega)]
  frame_out
  rw [read_unread_whole]
  unfold_payloads
  pointwise [G]
  rw [Fin.sum_univ_two_halves 2048 2048 rfl]
  blk_point [iblk, V, idx t, idx s]

open Cert.WOutRefIdeal.Read in
/-- The reference's result is the same sum. -/
theorem ref (x : S4096x1024.Idx → EReal) (d : S4096x1024.Idx → EReal) : val_main_v6 (F := Ideal) x d = G x d := by
  funext i
  pointwise [val_main_v6, val_main_v5, val_main_v4, val_main_v0, val_main_v1, G]
  exact Fin.sum_fin_congr fun k => mul_comm _ _

end Cert.Proof.WOut
-- ==== Proof.WInValue.lean ====
/- What the weight gradient's program leaves in its result array, element by element, and that the reference leaves the same. -/
module

public import proofs.«01_k».proof.Proof.Gen.WInIdeal.Value
public import proofs.«01_k».proof.Proof.Gen.WInRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.WIn

open Idealize.ShloMosaic Idealize.ShloMosaic.TcCoe Idealize.SL.Sem
open Cert.WInIdeal Cert.WInIdeal.Gen

variable (m : (ℓ : Loc nD τ sig) → Buf (Elt Ideal) ℓ)

/-- The weight gradient at an element: the sum over all rows of the two operands' products. -/
def G (x : S4096x1536.Idx → EReal) (d : S4096x1024.Idx → EReal) : S1536x1024.Idx → EReal := fun i =>
  ∑ k : Fin 4096, x (ix2 k (i 0)) * d (ix2 k (i 1))

/-- Where the windows' blocks lie: the two operands' at row block `t % 2`, the result's at block `t / 2`. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- What a point leaves depends on its number alone. -/
theorem outs_of_val (c : Dev nD) (n : ℕ) (h : n < cfg0.N) (s : Fin cfg0.N) (hs : s.val = n) : outsAt0 m c n h = outsAt0 m c s.val s.isLt := by
  subst hs; rfl

/-- The result array of the kernel: `G` of its operands. Each block is the sum over two points of a half of the rows each. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  have hm : t.val % 2 = 1 := (flush0_2 t).mp hf
  rw [after0_2, outsAt0_B m c t (by omega) hm hm]
  obtain ⟨s, hs⟩ : ∃ s : Fin cfg0.N, s.val = t.val - 1 := ⟨⟨t.val - 1, lt_of_le_of_lt (Nat.sub_le _ _) t.isLt⟩, rfl⟩
  rw [outs_of_val m c (t.val - 1) _ s hs, outsAt0_A m c s (by omega) (by omega) (by omega)]
  frame_out
  rw [read_unread_whole]
  unfold_payloads
  pointwise [G]
  rw [Fin.sum_univ_two_halves 2048 2048 rfl]
  blk_point [iblk, V, idx t, idx s]

open Cert.WInRefIdeal.Read in
/-- The reference's result is the same sum. -/
theorem ref (x : S4096x1536.Idx → EReal) (d : S4096x1024.Idx → EReal) : val_main_v6 (F := Ideal) x d = G x d := by
  funext i
  pointwise [val_main_v6, val_main_v5, val_main_v4, val_main_v0, val_main_v1, G]
  exact Fin.sum_fin_congr fun k => mul_comm _ _

end Cert.Proof.WIn
-- ==== Proof.Finite.lean ====
module

public import proofs.«01_k».proof.Proof.Silu
public import proofs.«01_k».proof.Proof.Gen.Pre_pre_gate
public import proofs.«01_k».proof.Proof.Gen.Pre_pre_gu

@[expose] public section

/-! # Finite arrays

What the two preconditions say of the arrays that they name: every entry is a real number. -/

noncomputable section

namespace Cert.Proof.Finite

open Idealize.ShloMosaic

/-- A number whose absolute value is below infinity is real. -/
theorem real (x : EReal) (h : Ideal.cmp .olt (max x (-x)) (Ideal.ofBits FTy.f32 0x7F800000#32) = 1#1) : ∃ r : ℝ, x = (r : EReal) := by
  have htop : Ideal.ofBits FTy.f32 0x7F800000#32 = ⊤ := by simp [Ideal.ofBits, Ideal.ieee]
  rw [htop] at h
  induction x with
  | bot => exact absurd h (by simp [Ideal.cmp])
  | top => exact absurd h (by simp [Ideal.cmp])
  | coe r => exact ⟨r, rfl⟩

theorem gate (d : Cert.Pre_pre_gate.S4096x1024.Idx → EReal) (w : Cert.Pre_pre_gate.S2816x1024.Idx → EReal) (g u : Cert.Pre_pre_gate.S4096x2816.Idx → EReal)
    (h : (Cert.Pre_pre_gate.fn (F := Ideal) d w g u).1 = (fun _ => 1#1) ∧ (Cert.Pre_pre_gate.fn (F := Ideal) d w g u).2.1 = (fun _ => 1#1)
      ∧ (Cert.Pre_pre_gate.fn (F := Ideal) d w g u).2.2 = (fun _ => 1#1)) :
    (∀ i, ∃ r : ℝ, d i = r) ∧ (∀ i, ∃ r : ℝ, w i = r) ∧ ∀ i, ∃ r : ℝ, u i = r :=
  ⟨fun i => real _ (congrFun h.1 i), fun i => real _ (congrFun h.2.1 i), fun i => real _ (congrFun h.2.2 i)⟩

theorem gu (x : Cert.Pre_pre_gu.S4096x1024.Idx → EReal) (w u : Cert.Pre_pre_gu.S2816x1024.Idx → EReal)
    (h : (Cert.Pre_pre_gu.fn (F := Ideal) x w u).1 = (fun _ => 1#1) ∧ (Cert.Pre_pre_gu.fn (F := Ideal) x w u).2 = (fun _ => 1#1)) :
    (∀ i, ∃ r : ℝ, x i = r) ∧ ∀ i, ∃ r : ℝ, u i = r :=
  ⟨fun i => real _ (congrFun h.1 i), fun i => real _ (congrFun h.2 i)⟩

end Cert.Proof.Finite
-- ==== Proof.AdamInValue.lean ====
module

public import proofs.«01_k».proof.Proof.Gen.AdamInIdeal.Value
public import proofs.«01_k».proof.Proof.Gen.AdamInRefIdeal.Read
public import Idealize.ShloMosaic.Lib.Pipeline.ValueKit
public import Idealize.ShloMosaic.Lib.Pipeline.ReadBack
public import Idealize.ShloMosaic.Lib.Pointwise

@[expose] public section

set_option maxRecDepth 16384

/-! # What the optimiser leaves for the input weight: the gradient, the step and the two moments

The gradient comes transposed, in two halves; each block of rows reads a block of columns of it. -/

noncomputable section

namespace Cert.Proof.AdamIn

open Idealize.ShloMosaic Idealize.ShloMosaic.TcCoe Idealize.SL.Sem
open Cert.AdamInIdeal Cert.AdamInIdeal.Gen Cert.AdamInRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, t.val] ∧ win0_4.index t = ![0, t.val] ∧ win0_5.index t = ![t.val, 0]
    ∧ win0_6.index t = ![t.val, 0] ∧ win0_7.index t = ![t.val, 0] ∧ win0_8.index t = ![t.val, 0] :=
  (by decide +kernel : ∀ t : Fin grid0.N, _)

/-- The gradient is the transposed sum of the two halves. -/
theorem final5 (c : Dev nD) : (dats m 0 c).arrAt 5 cfg0.N
    = val_main_v1 (F := Ideal) (m ((c : Thread nD τ).loc main_arg3)) (m ((c : Thread nD τ).loc main_arg4)) := by
  refine (dats m 0 c).arrAt_eq_of_covers 5 _ (by decide +kernel) fun t hf y => ?_
  blk_simp
  rw [after0_5]
  frame_out
  unfold_payloads
  pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
  blk_point [iblk, V, idx t]

/-- The step of the weight. -/
theorem final6 (c : Dev nD) : (dats m 0 c).arrAt 6 cfg0.N
    = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  unfold_payloads
  pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
  blk_point [iblk, V, idx t]

/-- The first moment. -/
theorem final7 (c : Dev nD) : (dats m 0 c).arrAt 7 cfg0.N
    = val_main_v6 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  unfold_payloads
  pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
  blk_point [iblk, V, idx t]

/-- The second moment. -/
theorem final8 (c : Dev nD) : (dats m 0 c).arrAt 8 cfg0.N
    = val_main_v12 (F := Ideal) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  unfold_payloads
  pointwise [val_main_v25, val_main_v24, val_main_cst_7, val_main_v23, val_main_v22, val_main_v21, val_main_cst_6, val_main_v20, val_main_v19, val_main_v18, val_main_cst_5, val_main_v17, val_main_v16, val_main_v15, val_main_cst_4, val_main_v14, val_main_v13, val_main_cst_3, val_main_v12, val_main_v11, val_main_v10, val_main_cst_2, val_main_v9, val_main_v8, val_main_v7, val_main_cst_1, val_main_v6, val_main_v5, val_main_v4, val_main_cst_0, val_main_v3, val_main_v2, val_main_cst, val_main_v1, val_main_v0]
  blk_point [iblk, V, idx t]

end Cert.Proof.AdamIn
-- ==== Proof.SeqFwdScr.lean ====
module

public import proofs.«01_k».proof.Proof.Gen.SeqFwdIdeal.Value
public import Idealize.ShloMosaic.Lib.Pipeline.ValueKit
public import Idealize.ShloMosaic.Lib.Pipeline.ReadBack
public import Idealize.ShloMosaic.Lib.Pointwise

@[expose] public section

set_option maxRecDepth 16384

/-! # The gated unit's rows, and their copies shifted by up to seven rows

The kernel keeps the rows of a block, after the last 32 of the block before, eight times over: each copy starts one row later than the
one before. A load from any copy is a load of the same rows. -/

noncomputable section

namespace Cert.Proof.SeqFwd

open Idealize.ShloMosaic Idealize.ShloMosaic.TcCoe Idealize.SL.Sem
open Cert.SeqFwdIdeal Cert.SeqFwdIdeal.Gen

/-- A matrix at two numbers, zero outside it. -/
def at2 {n0 n1 : ℕ} (x : FVec Ideal ⟨2, ![n0, n1]⟩ .f32) (r c : ℕ) : EReal :=
  if h : r < n0 ∧ c < n1 then x (ix2 ⟨r, h.1⟩ ⟨c, h.2⟩) else 0

theorem at2_ix2 {n0 n1 : ℕ} (x : FVec Ideal ⟨2, ![n0, n1]⟩ .f32) (a : Fin n0) (b : Fin n1) : x (ix2 a b) = at2 x a b := by
  simp [at2]

/-- A matrix at any index. -/
theorem at2_eq {n0 n1 : ℕ} (x : FVec Ideal ⟨2, ![n0, n1]⟩ .f32) (j : (⟨2, ![n0, n1]⟩ : Shape).Idx) : x j = at2 x (j 0).val (j 1).val := by
  refine Eq.trans (congrArg x ?_) (at2_ix2 x (j 0) (j 1))
  funext a; fin_cases a <;> rfl

/-- The gated unit. -/
def gl (a g : EReal) : EReal := a * Ideal.div 1 (1 + Ideal.exp (0 - g))

/-- The gated unit by rows: 32 rows of the block before (zero before the first), then the block's own. -/
def U (i : grid0.Coords) (x0 : FVec Ideal S512x1536 .f32) (x1 : FVec Ideal S32x1536 .f32) (q c : ℕ) : EReal :=
  if q < 32 then (if (i 0).val = 0 then 0 else gl (at2 x1 q c) (at2 x1 q (512 + c)))
  else gl (at2 x0 (q - 32) c) (at2 x0 (q - 32) (512 + c))

variable (c : Dev nD) (i : grid0.Coords) (arg1 : Memref sig Kind.tc Space.vmem S512x1536 EltTy.f32) (harg1 : arg1.IsWhole)
  (arg2 : Memref sig Kind.tc Space.vmem S32x1536 EltTy.f32) (harg2 : arg2.IsWhole)
  (arg11 : Memref sig Kind.tc Space.vmem S8x544x512 EltTy.f32)
  (x0 : Vec Ideal S512x1536 EltTy.f32) (x1 : Vec Ideal S32x1536 EltTy.f32)

set_option maxHeartbeats 400000

/-- What the shifted copies hold. -/
def S (j : S8x544x512.Idx) : EReal := U i x0 x1 ((j 0).val + (j 1).val) (j 2).val

theorem rd2 {n0 n1 : ℕ} (a : Memref sig Kind.tc Space.vmem ⟨2, ![n0, n1]⟩ EltTy.f32) (ha : a.IsWhole)
    (x : Vec Ideal ⟨2, ![n0, n1]⟩ EltTy.f32) (o0 o1 : ℕ) (sz : Fin 2 → ℕ) (inb) :
    View.readAt (Elt Ideal) a.view (Rect.unit (s := ⟨2, ![n0, n1]⟩) ![o0, o1] sz inb).toLoadRect (ha.unread x)
      = fun y => at2 x (o0 + (y 0).val) (o1 + (y 1).val) := by
  funext y
  rw [View.readAt_eq_ld, Memref.IsWhole.read_unread]
  refine (at2_eq x _).trans ?_
  congr 1
  · exact ValueKit.rect_emb_unit_val (s := ⟨2, ![n0, n1]⟩) ![o0, o1] sz inb y 0
  · exact ValueKit.rect_emb_unit_val (s := ⟨2, ![n0, n1]⟩) ![o0, o1] sz inb y 1

theorem first_zero (n : Fin 8) (v : EReal) : Scalar.select (Scalar.cmpi CmpIPredicate.eq (BitVec.ofNat 32 n.val) 0#32) 0 v
    = if n.val = 0 then 0 else v := by
  have h : ∀ n : Fin 8, Scalar.cmpi CmpIPredicate.eq (BitVec.ofNat 32 n.val) 0#32 = if n.val = 0 then 1#1 else 0#1 := by decide
  rw [h n]
  split <;> rfl

theorem pieces2 : View.PiecesOf (S i x0 x1) (kernelRun0_A.sl.HS0_2 (F := Ideal) c i arg1 harg1 arg2 harg2 x0 x1) := by
  unfold kernelRun0_A.sl.HS0_2
  refine ⟨fun x => ?_, fun x => ?_, trivial⟩
  · have h0 : (x 0).val < 1 := (x 0).isLt
    frame_open
    simp only [rd2]
    unfold_payloads
    pointwise [S, U, gl, ValueKit.rect_emb_unit_val]
  · have h0 : (x 0).val < 1 := (x 0).isLt
    have h1 : (x 1).val < 32 := (x 1).isLt
    simp only [rd2]
    unfold_payloads
    pointwise [S, U, gl, ValueKit.rect_emb_unit_val]
    exact first_zero (i 0) _

/-- Blocks that agree with the shifted rows and cover the first `k` copies. -/
def Ok (k : ℕ) (L : List (View.Piece (Elt Ideal) S8x544x512 EltTy.f32)) : Prop :=
  View.PiecesOf (S i x0 x1) L ∧ ∀ j : S8x544x512.Idx, ((j 0).val = 0 ∨ (j 0).val < k ∧ (j 1).val < 536) → ∃ p ∈ L, j ∈ p.1.set

theorem ok2 : Ok i x0 x1 1 (kernelRun0_A.sl.HS0_2 (F := Ideal) c i arg1 harg1 arg2 harg2 x0 x1) := by
  refine ⟨pieces2 c i arg1 harg1 arg2 harg2 x0 x1, fun j hj => ?_⟩
  have h0 : (j 0).val = 0 := by omega
  have h1 : (j 1).val < 544 := (j 1).isLt
  have h2 : (j 2).val < 512 := (j 2).isLt
  unfold kernelRun0_A.sl.HS0_2
  by_cases h : (j 1).val < 32
  · refine ⟨_, List.mem_cons_of_mem _ List.mem_cons_self, ?_⟩
    dsimp only
    rw [Rect.mem_set_unit]
    intro a
    fin_cases a <;> simp <;> omega
  · refine ⟨_, List.mem_cons_self, ?_⟩
    dsimp only
    rw [Rect.mem_set_unit]
    intro a
    fin_cases a <;> simp <;> omega

theorem ok_canon {k : ℕ} {L : List (View.Piece (Elt Ideal) S8x544x512 EltTy.f32)} (h : Ok i x0 x1 k L) (j : S8x544x512.Idx)
    (hj : (j 0).val = 0 ∨ (j 0).val < k ∧ (j 1).val < 536) : View.canon L j = S i x0 x1 j :=
  View.canon_apply_of_pieces _ L h.1.mem j (h.2 j hj)

/-- One more shifted copy. -/
theorem ok_cons {k : ℕ} {L : List (View.Piece (Elt Ideal) S8x544x512 EltTy.f32)} (h : Ok i x0 x1 k L) (hk : k < 8)
    (inb) (inb') (w : S1x536x512.Idx → EReal)
    (hw : w = arg11.view.readCov L (Rect.unit (s := S8x544x512) ![0, k, 0] S1x536x512.size inb').toLoadRect) :
    Ok i x0 x1 (k + 1) (⟨Rect.unit (s := S8x544x512) ![k, 0, 0] S1x536x512.size inb, w⟩ :: L) := by
  refine ⟨⟨fun x => ?_, h.1⟩, fun j hj => ?_⟩
  · have h0 : (x 0).val < 1 := (x 0).isLt
    have h1 : (x 1).val < 536 := (x 1).isLt
    subst hw
    rw [View.readCov_eq_canon']
    refine (ok_canon i x0 x1 h _ (Or.inl ?_)).trans ?_
    · refine (ValueKit.rect_emb_unit_val _ _ inb' x 0).trans ?_
      simp
    · have e : ∀ a, ((Rect.unit (s := S8x544x512) ![0, k, 0] S1x536x512.size inb').idx x a).val = ![0, k, 0] a + (x a).val :=
        ValueKit.rect_emb_unit_val _ _ inb' x
      unfold S
      rw [e 0, e 1, e 2]
      simp only [ValueKit.rect_emb_unit_val]
      congr 1
      simp
  · have h1 : (j 1).val < 544 := (j 1).isLt
    have h2 : (j 2).val < 512 := (j 2).isLt
    by_cases hk' : (j 0).val = k ∧ (j 1).val < 536
    · refine ⟨_, List.mem_cons_self, ?_⟩
      dsimp only
      rw [Rect.mem_set_unit]
      intro a
      fin_cases a <;> simp <;> omega
    · obtain ⟨p, hp, hp'⟩ := h.2 j (by omega)
      exact ⟨p, List.mem_cons_of_mem _ hp, hp'⟩

theorem cast_cast (v : Vec Ideal S1x536x512 .f32) :
    shapeCast S1x536x512 (shapeCast S536x512 v shapeCasts_S1x536x512_S536x512) shapeCasts_S536x512_S1x536x512 = v := by
  funext x
  pointwise []

theorem ok3 : Ok i x0 x1 2 (kernelRun0_A.sl.HS0_3 (F := Ideal) c i arg1 harg1 arg2 harg2 arg11 x0 x1) :=
  ok_cons i arg11 x0 x1 (ok2 c i arg1 harg1 arg2 harg2 x0 x1) (by omega) _ inb_S8x544x512_S1x536x512_0_1_0 _ (cast_cast _)

theorem ok4 : Ok i x0 x1 3 (kernelRun0_A.sl.HS0_4 (F := Ideal) c i arg1 harg1 arg2 harg2 arg11 x0 x1) :=
  ok_cons i arg11 x0 x1 (ok3 c i arg1 harg1 arg2 harg2 arg11 x0 x1) (by omega) _ inb_S8x544x512_S1x536x512_0_2_0 _ (cast_cast _)

theorem ok5 : Ok i x0 x1 4 (kernelRun0_A.sl.HS0_5 (F := Ideal) c i arg1 harg1 arg2 harg2 arg11 x0 x1) :=
  ok_cons i arg11 x0 x1 (ok4 c i arg1 harg1 arg2 harg2 arg11 x0 x1) (by omega) _ inb_S8x544x512_S1x536x512_0_3_0 _ (cast_cast _)

theorem ok6 : Ok i x0 x1 5 (kernelRun0_A.sl.HS0_6 (F := Ideal) c i arg1 harg1 arg2 harg2 arg11 x0 x1) := by
  unfold kernelRun0_A.sl.HS0_6
  refine ok_cons i arg11 x0 x1 (ok5 c i arg1 harg1 arg2 harg2 arg11 x0 x1) (by omega) _ inb_S8x544x512_S1x536x512_0_4_0 _ ?_
  unfold k0_pay11 kernelRun0_A.sl.v55
  exact cast_cast _

theorem ok7 : Ok i x0 x1 6 (kernelRun0_A.sl.HS0_7 (F := Ideal) c i arg1 harg1 arg2 harg2 arg11 x0 x1) := by
  unfold kernelRun0_A.sl.HS0_7
  refine ok_cons i arg11 x0 x1 (ok6 c i arg1 harg1 arg2 harg2 arg11 x0 x1) (by omega) _ inb_S8x544x512_S1x536x512_0_5_0 _ ?_
  unfold k0_pay12 kernelRun0_A.sl.v59
  exact cast_cast _

theorem ok8 : Ok i x0 x1 7 (kernelRun0_A.sl.HS0_8 (F := Ideal) c i arg1 harg1 arg2 harg2 arg11 x0 x1) := by
  unfold kernelRun0_A.sl.HS0_8
  refine ok_cons i arg11 x0 x1 (ok7 c i arg1 harg1 arg2 harg2 arg11 x0 x1) (by omega) _ inb_S8x544x512_S1x536x512_0_6_0 _ ?_
  unfold k0_pay13 kernelRun0_A.sl.v64
  exact cast_cast _

theorem ok9 : Ok i x0 x1 8 (kernelRun0_A.sl.HS0_9 (F := Ideal) c i arg1 harg1 arg2 harg2 arg11 x0 x1) := by
  unfold kernelRun0_A.sl.HS0_9
  refine ok_cons i arg11 x0 x1 (ok8 c i arg1 harg1 arg2 harg2 arg11 x0 x1) (by omega) _ inb_S8x544x512_S1x536x512_0_7_0 _ ?_
  unfold k0_pay14 kernelRun0_A.sl.v69
  exact cast_cast _

/-- A load from the shifted copies. -/
theorem load (s o c0 : ℕ) (inb) (h : s = 0 ∨ s < 8 ∧ o + 64 ≤ 536) :
    arg11.view.readCov (kernelRun0_A.sl.HS0_9 (F := Ideal) c i arg1 harg1 arg2 harg2 arg11 x0 x1)
      (Rect.unit (s := S8x544x512) ![s, o, c0] S1x64x128.size inb).toLoadRect
      = fun y => U i x0 x1 (s + o + (y 1).val) (c0 + (y 2).val) := by
  rw [View.readCov_eq_canon']
  funext y
  have e : ∀ a, ((Rect.unit (s := S8x544x512) ![s, o, c0] S1x64x128.size inb).idx y a).val = ![s, o, c0] a + (y a).val :=
    ValueKit.rect_emb_unit_val _ _ inb y
  have h0 : (y 0).val < 1 := (y 0).isLt
  have h1 : (y 1).val < 64 := (y 1).isLt
  refine (ok_canon i x0 x1 (ok9 c i arg1 harg1 arg2 harg2 arg11 x0 x1) _ ?_).trans ?_
  · have e0 := e 0
    have e1 := e 1
    simp at e0 e1
    show ((Rect.unit (s := S8x544x512) ![s, o, c0] S1x64x128.size inb).idx y 0).val = 0 ∨ _ < 8 ∧ ((Rect.unit (s := S8x544x512) ![s, o, c0] S1x64x128.size inb).idx y 1).val < 536
    rw [e 0, e 1]
    simp
    omega
  · unfold S
    refine (congrArg₂ (U i x0 x1) (congrArg₂ (· + ·) (e 0) (e 1)) (e 2)).trans ?_
    congr 1
    simp
    omega
-- ==== Proof.SeqFwdConv.lean ====
module

public import proofs.«01_k».proof.Proof.SeqFwdScr

@[expose] public section

set_option maxRecDepth 16384

/-! # The causal filter over a block

The block is written in 32 pieces of 64 rows and 128 columns, each a sum of 31 shifted products; the pieces are one array. -/

noncomputable section

namespace Cert.Proof.SeqFwd

open Idealize.ShloMosaic Idealize.ShloMosaic.TcCoe Idealize.SL.Sem
open Cert.SeqFwdIdeal Cert.SeqFwdIdeal.Gen

variable (c : Dev nD) (i : grid0.Coords) (arg1 : Memref sig Kind.tc Space.vmem S512x1536 EltTy.f32) (harg1 : arg1.IsWhole)
  (arg2 : Memref sig Kind.tc Space.vmem S32x1536 EltTy.f32) (harg2 : arg2.IsWhole)
  (arg3 : Memref sig Kind.tc Space.vmem S4x31x1x128 EltTy.f32) (harg3 : arg3.IsWhole)
  (arg4 : Memref sig Kind.tc Space.vmem S1x512 EltTy.f32) (harg4 : arg4.IsWhole)
  (arg11 : Memref sig Kind.tc Space.vmem S8x544x512 EltTy.f32)
  (x0 : Vec Ideal S512x1536 EltTy.f32) (x1 : Vec Ideal S32x1536 EltTy.f32) (x2 : Vec Ideal S4x31x1x128 EltTy.f32) (x3 : Vec Ideal S1x512 EltTy.f32)

set_option maxHeartbeats 1000000

/-- The weights by the filter's row and the column, zero outside them. -/
def W (x2 : FVec Ideal S4x31x1x128 .f32) (k e : ℕ) : EReal :=
  if h : e < 512 ∧ k < 31 then x2 (ix4 ⟨e / 128, by omega⟩ ⟨k, h.2⟩ 0 ⟨e % 128, by omega⟩) else 0

theorem rdW (j k : ℕ) (sz : Fin 4 → ℕ) (inb) (hs : sz = ![1, 1, 1, 128]) :
    View.readAt (Elt Ideal) arg3.view (Rect.unit (s := S4x31x1x128) ![j, k, 0, 0] sz inb).toLoadRect (harg3.unread x2)
      = fun y => W x2 k (128 * j + (y 3).val) := by
  subst hs
  funext y
  have e : ∀ a, ((Rect.unit (s := S4x31x1x128) ![j, k, 0, 0] ![1, 1, 1, 128] inb).idx y a).val = ![j, k, 0, 0] a + (y a).val :=
    ValueKit.rect_emb_unit_val _ _ inb y
  have h0 : (y 0).val < 1 := (y 0).isLt
  have h1 : (y 1).val < 1 := (y 1).isLt
  have h2 : (y 2).val < 1 := (y 2).isLt
  have h3 : (y 3).val < 128 := (y 3).isLt
  have hj : j + 1 ≤ 4 := inb 0
  have hk : k + 1 ≤ 31 := inb 1
  rw [View.readAt_eq_ld, Memref.IsWhole.read_unread]
  unfold W
  rw [dif_pos ⟨by omega, by omega⟩]
  refine congrArg x2 (funext fun a => Fin.ext ?_)
  refine (e a).trans ?_
  fin_cases a
  · show j + (y 0).val = (128 * j + (y 3).val) / 128
    omega
  · show k + (y 1).val = k
    omega
  · show 0 + (y 2).val = 0
    omega
  · show 0 + (y 3).val = (128 * j + (y 3).val) % 128
    omega

/-- The causal filter: 31 rows, and the bias. -/
def Cv (y : S512x512.Idx) : EReal :=
  (∑ k : Fin 31, U i x0 x1 (2 + k.val + (y 0).val) (y 1).val * W x2 k.val (y 1).val) + at2 x3 0 (y 1).val

set_option maxHeartbeats 40000000 in
theorem conv : View.PiecesOf (Cv i x0 x1 x2 x3) (kernelRun0_A.sl.H9_32 (F := Ideal) c i arg1 harg1 arg2 harg2 arg3 harg3 arg4 harg4 arg11 x0 x1 x2 x3) := by
  have hl := load c i arg1 harg1 arg2 harg2 arg11 x0 x1
  frame_open at hl
  unfold kernelRun0_A.sl.H9_32
  iterate 32
    refine ⟨fun x => ?_, ?_⟩
    · frame_open
      simp (disch := decide) only [↓hl]
      simp (disch := decide) only [rdW, rd2]
      unfold_payloads
      pointwise [Cv, ValueKit.rect_emb_unit_val]
      simp only [Fin.sum_univ_castSucc]
      simp [← Nat.add_assoc]
  trivial

theorem covers (y : S512x512.Idx) : ∃ p ∈ kernelRun0_A.sl.H9_32 (F := Ideal) c i arg1 harg1 arg2 harg2 arg3 harg3 arg4 harg4 arg11 x0 x1 x2 x3, y ∈ p.1.set :=
  View.cover_of_tiledL (kernelRun0_A.sl.H9_32 (F := Ideal) c i arg1 harg1 arg2 harg2 arg3 harg3 arg4 harg4 arg11 x0 x1 x2 x3) S64x128.size (by sl_kernel_rfl) y

/-- The filter's block, read back. -/
theorem canon_conv : View.canon (kernelRun0_A.sl.H9_32 (F := Ideal) c i arg1 harg1 arg2 harg2 arg3 harg3 arg4 harg4 arg11 x0 x1 x2 x3) = Cv i x0 x1 x2 x3 :=
  funext fun y => View.canon_apply_of_pieces _ _ (conv c i arg1 harg1 arg2 harg2 arg3 harg3 arg4 harg4 arg11 x0 x1 x2 x3).mem y
    (covers c i arg1 harg1 arg2 harg2 arg3 harg3 arg4 harg4 arg11 x0 x1 x2 x3 y)
-- ==== Proof.SeqFwdMath.lean ====
module

public import proofs.«01_k».proof.Proof.SeqFwdConv
public import Idealize.ShloMosaic.Lib.Pointwise

@[expose] public section

set_option maxRecDepth 16384

/-! # The mixers of the forward, over all rows -/

noncomputable section

namespace Cert.Proof.SeqFwd

open Idealize.ShloMosaic

abbrev Zs : Shape := ⟨2, ![4096, 1536]⟩
abbrev Rs : Shape := ⟨2, ![1, 512]⟩

/-- A stack of matrices at three numbers, zero outside it. -/
def at3 {n0 n1 n2 : ℕ} (x : FVec Ideal ⟨3, ![n0, n1, n2]⟩ .f32) (p r c : ℕ) : EReal :=
  if h : p < n0 ∧ r < n1 ∧ c < n2 then x (ix3 ⟨p, h.1⟩ ⟨r, h.2.1⟩ ⟨c, h.2.2⟩) else 0

theorem at3_ix3 {n0 n1 n2 : ℕ} (x : FVec Ideal ⟨3, ![n0, n1, n2]⟩ .f32) (a : Fin n0) (b : Fin n1) (c : Fin n2) : x (ix3 a b c) = at3 x a b c := by
  simp [at3]

theorem ix2_eta {n0 n1 : ℕ} (y : (⟨2, ![n0, n1]⟩ : Shape).Idx) : ix2 (n0 := n0) (n1 := n1) (y 0) (y 1) = y := by
  funext a
  fin_cases a <;> rfl

/-- The gated unit by rows, under 30 rows of zeros. -/
def uz (z : FVec Ideal Zs .f32) (q c : ℕ) : EReal :=
  if q < 30 then 0 else gl (at2 z (q - 30) c) (at2 z (q - 30) (512 + c))

/-- The causal filter over all rows. -/
def Gv (z : FVec Ideal Zs .f32) (w : FVec Ideal ⟨4, ![4, 31, 1, 128]⟩ .f32) (b : FVec Ideal Rs .f32) (y : (⟨2, ![4096, 512]⟩ : Shape).Idx) : EReal :=
  (∑ k : Fin 31, uz z (k.val + (y 0).val) (y 1).val * W w k.val (y 1).val) + at2 b 0 (y 1).val

/-- A row over its mean, with unit variance. -/
def lnv (v : Fin 512 → EReal) (g b : EReal) (e : Fin 512) : EReal :=
  let mu := Ideal.div (∑ k, v k) (Ideal.ofBits .f32 0x44000000#32)
  (v e - mu) * Ideal.rsqrt (Ideal.div (∑ k, (v k - mu) * (v k - mu)) (Ideal.ofBits .f32 0x44000000#32) + Ideal.ofBits .f32 0x3727C5AC#32) * g + b

/-- How many rows a window holds. -/
def cnt (n w : ℕ) : EReal := FloatOps.sitofp (F := Ideal) FTy.f32 (IntOp.minsi (IntOp.addi (BitVec.ofNat 32 n) 1#32) (BitVec.ofNat 32 w))

/-- A window's mean less the row itself, mapped. -/
def pool (f : ℕ → ℕ → EReal) (w : ℕ) (n : EReal) (wp : ℕ → EReal) : EReal :=
  ∑ x : Fin 128, (Ideal.div (∑ d ∈ Finset.range w, f d x.val) n - f 0 x.val) * wp x.val

/-- A row's entry `d` rows back, zero before the first. -/
def back (z : FVec Ideal Zs .f32) (n d c : ℕ) : EReal := if d ≤ n then at2 z (n - d) (1024 + c) else 0

/-- One group of the windows. -/
def Gp (z : FVec Ideal Zs .f32) (wp : FVec Ideal ⟨3, ![4, 128, 128]⟩ .f32) (s : FVec Ideal Rs .f32) (gi w n e : ℕ) : EReal :=
  pool (fun d x => back z n d (128 * gi + x)) w (cnt n w) (fun x => at3 wp gi x e) * at2 s 0 (128 * gi + e)

/-- The two mixers side by side. -/
def Gy (z : FVec Ideal Zs .f32) (w : FVec Ideal ⟨4, ![4, 31, 1, 128]⟩ .f32) (b g lb : FVec Ideal Rs .f32)
    (wp : FVec Ideal ⟨3, ![4, 128, 128]⟩ .f32) (s : FVec Ideal Rs .f32) (y : (⟨2, ![4096, 1024]⟩ : Shape).Idx) : EReal :=
  if h : (y 1).val < 512 then
    let l := lnv (fun k => Gv z w b (ix2 (y 0) k)) (at2 g 0 (y 1).val) (at2 lb 0 (y 1).val) ⟨(y 1).val, h⟩
    gl l l
  else if (y 1).val < 640 then Gp z wp s 0 2 (y 0).val ((y 1).val - 512)
  else if (y 1).val < 768 then Gp z wp s 1 4 (y 0).val ((y 1).val - 640)
  else if (y 1).val < 896 then Gp z wp s 2 8 (y 0).val ((y 1).val - 768)
  else Gp z wp s 3 16 (y 0).val ((y 1).val - 896)

end Cert.Proof.SeqFwd
-- ==== Proof.SeqFwdPool.lean ====
module

public import proofs.«01_k».proof.Proof.SeqFwdMath

@[expose] public section

set_option maxRecDepth 16384

/-! # The four windows over a block -/

noncomputable section

namespace Cert.Proof.SeqFwd

open Idealize.ShloMosaic Idealize.ShloMosaic.TcCoe Idealize.SL.Sem
open Cert.SeqFwdIdeal Cert.SeqFwdIdeal.Gen

variable (c : Dev nD) (i : grid0.Coords) (arg1 : Memref sig Kind.tc Space.vmem S512x1536 EltTy.f32) (harg1 : arg1.IsWhole)
  (arg2 : Memref sig Kind.tc Space.vmem S32x1536 EltTy.f32) (harg2 : arg2.IsWhole)
  (arg7 : Memref sig Kind.tc Space.vmem S4x128x128 EltTy.f32) (harg7 : arg7.IsWhole)
  (arg8 : Memref sig Kind.tc Space.vmem S1x512 EltTy.f32) (harg8 : arg8.IsWhole)
  (arg12 : Memref sig Kind.tc Space.vmem S544x512 EltTy.f32)
  (x0 : Vec Ideal S512x1536 EltTy.f32) (x1 : Vec Ideal S32x1536 EltTy.f32) (x6 : Vec Ideal S4x128x128 EltTy.f32) (x7 : Vec Ideal S1x512 EltTy.f32)

set_option maxHeartbeats 400000

/-- The pooled columns by rows: 32 rows of the block before (zero before the first), then the block's own. -/
def Pr (i : grid0.Coords) (x0 : FVec Ideal S512x1536 .f32) (x1 : FVec Ideal S32x1536 .f32) (q c : ℕ) : EReal :=
  if q < 32 then (if (i 0).val = 0 then 0 else at2 x1 q (1024 + c)) else at2 x0 (q - 32) (1024 + c)

theorem piecesP : View.PiecesOf (fun j : S544x512.Idx => Pr i x0 x1 (j 0).val (j 1).val)
    (kernelRun0_A.sl.HS1_2 (F := Ideal) c i arg1 harg1 arg2 harg2 x0 x1) := by
  unfold kernelRun0_A.sl.HS1_2
  refine ⟨fun x => ?_, fun x => ?_, trivial⟩
  · frame_open
    simp only [rd2]
    unfold_payloads
    pointwise [Pr, ValueKit.rect_emb_unit_val]
  · have h0 : (x 0).val < 32 := (x 0).isLt
    simp only [rd2]
    unfold_payloads
    pointwise [Pr, ValueKit.rect_emb_unit_val]
    exact first_zero (i 0) _

theorem coverP (j : S544x512.Idx) : ∃ p ∈ kernelRun0_A.sl.HS1_2 (F := Ideal) c i arg1 harg1 arg2 harg2 x0 x1, j ∈ p.1.set := by
  have h1 : (j 0).val < 544 := (j 0).isLt
  have h2 : (j 1).val < 512 := (j 1).isLt
  unfold kernelRun0_A.sl.HS1_2
  by_cases h : (j 0).val < 32
  · refine ⟨_, List.mem_cons_of_mem _ List.mem_cons_self, ?_⟩
    dsimp only
    rw [Rect.mem_set_unit]
    intro a
    fin_cases a <;> simp <;> omega
  · refine ⟨_, List.mem_cons_self, ?_⟩
    dsimp only
    rw [Rect.mem_set_unit]
    intro a
    fin_cases a <;> simp <;> omega

/-- A load from the pooled rows. -/
theorem loadP (o c0 : ℕ) (sz : Fin 2 → ℕ) (inb) :
    arg12.view.readCov (kernelRun0_A.sl.HS1_2 (F := Ideal) c i arg1 harg1 arg2 harg2 x0 x1)
      (Rect.unit (s := S544x512) ![o, c0] sz inb).toLoadRect
      = fun y => Pr i x0 x1 (o + (y 0).val) (c0 + (y 1).val) := by
  rw [View.readCov_eq_canon']
  funext y
  have e : ∀ a, ((Rect.unit (s := S544x512) ![o, c0] sz inb).idx y a).val = ![o, c0] a + (y a).val :=
    ValueKit.rect_emb_unit_val _ _ inb y
  refine (View.canon_apply_of_pieces (fun j : S544x512.Idx => Pr i x0 x1 (j 0).val (j 1).val) _ (piecesP c i arg1 harg1 arg2 harg2 x0 x1).mem _ (coverP c i arg1 harg1 arg2 harg2 x0 x1 _)).trans ?_
  exact congrArg₂ (Pr i x0 x1) (e 0) (e 1)

theorem rdM (j : ℕ) (sz : Fin 3 → ℕ) (inb) :
    View.readAt (Elt Ideal) arg7.view (Rect.unit (s := S4x128x128) ![j, 0, 0] sz inb).toLoadRect (harg7.unread x6)
      = fun y => x6 ((Rect.unit (s := S4x128x128) ![j, 0, 0] sz inb).idx y) := by
  rw [View.readAt_eq_ld, Memref.IsWhole.read_unread]

/-- One group of the windows, over the block. -/
def Bp (i : grid0.Coords) (x0 : FVec Ideal S512x1536 .f32) (x1 : FVec Ideal S32x1536 .f32) (x6 : FVec Ideal S4x128x128 .f32) (x7 : FVec Ideal S1x512 .f32)
    (gi w r e : ℕ) : EReal :=
  pool (fun d x => Pr i x0 x1 (32 - d + r) (128 * gi + x)) w (cnt (512 * (i 0).val + r) w) (fun x => at3 x6 gi x e) * at2 x7 0 (128 * gi + e)

theorem row_bv (a r : ℕ) : IntOp.addi (Scalar.muli (BitVec.ofNat 32 a) 512#32) (BitVec.ofNat 32 r) = BitVec.ofNat 32 (512 * a + r) := by
  rw [BitVec.ofNat_add, BitVec.ofNat_mul, BitVec.mul_comm]
  rfl

set_option maxHeartbeats 4000000
theorem pool0 (r : Fin 512) (e : Fin 128) : k0_pay461 (F := Ideal) (kernelRun0_A.sl.r_426 i) k0_pay460 (kernelRun0_A.sl.v7221 c i arg1 harg1 arg2 harg2 arg12 x0 x1)
          (kernelRun0_A.sl.v7222 c i arg1 harg1 arg2 harg2 arg12 x0 x1)
          (View.readAt (Elt Ideal) arg7.view
            (Rect.unit (s := S4x128x128) ![0, 0, 0] ![1, 128, 128] inb_S4x128x128_S1x128x128_0_0_0).toLoadRect (harg7.unread x6))
          (View.readAt (Elt Ideal) arg8.view (Rect.unit (s := S1x512) ![0, 0] ![1, 128] inb_S1x512_S1x128_0_0).toLoadRect
            (harg8.unread x7)) (ix2 r e) = Bp i x0 x1 x6 x7 0 2 r.val e.val := by
  have hl := loadP c i arg1 harg1 arg2 harg2 arg12 x0 x1
  frame_open at hl
  frame_open
  simp (disch := decide) only [↓hl]
  clear hl
  simp (disch := decide) only [rd2, rdM]
  unfold_payloads
  pointwise [ValueKit.rect_emb_unit_val, k0_pay460]
  simp only [row_bv, at2_ix2, at3_ix3, Bp, pool, cnt, Finset.sum_range_succ, Finset.sum_range_zero, zero_add]
  simp

theorem pool1 (r : Fin 512) (e : Fin 128) : k0_pay463 (F := Ideal) (kernelRun0_A.sl.r_427 c i arg1 harg1 arg2 harg2 arg12 x0 x1)
          (View.readAt (Elt Ideal) arg7.view
            (Rect.unit (s := S4x128x128) ![1, 0, 0] ![1, 128, 128] inb_S4x128x128_S1x128x128_1_0_0).toLoadRect (harg7.unread x6))
          (View.readAt (Elt Ideal) arg8.view (Rect.unit (s := S1x512) ![0, 128] ![1, 128] inb_S1x512_S1x128_0_128).toLoadRect
            (harg8.unread x7)) (ix2 r e) = Bp i x0 x1 x6 x7 1 4 r.val e.val := by
  have hl := loadP c i arg1 harg1 arg2 harg2 arg12 x0 x1
  frame_open at hl
  frame_open
  simp (disch := decide) only [↓hl]
  clear hl
  simp (disch := decide) only [rd2, rdM]
  unfold_payloads
  pointwise [ValueKit.rect_emb_unit_val]
  simp only [row_bv, at2_ix2, at3_ix3, Bp, pool, cnt, Finset.sum_range_succ, Finset.sum_range_zero, zero_add]
  simp

theorem pool2 (r : Fin 512) (e : Fin 128) : k0_pay465 (F := Ideal) (kernelRun0_A.sl.r_428 c i arg1 harg1 arg2 harg2 arg12 x0 x1)
          (View.readAt (Elt Ideal) arg7.view
            (Rect.unit (s := S4x128x128) ![2, 0, 0] ![1, 128, 128] inb_S4x128x128_S1x128x128_2_0_0).toLoadRect (harg7.unread x6))
          (View.readAt (Elt Ideal) arg8.view (Rect.unit (s := S1x512) ![0, 256] ![1, 128] inb_S1x512_S1x128_0_256).toLoadRect
            (harg8.unread x7)) (ix2 r e) = Bp i x0 x1 x6 x7 2 8 r.val e.val := by
  have hl := loadP c i arg1 harg1 arg2 harg2 arg12 x0 x1
  frame_open at hl
  frame_open
  simp (disch := decide) only [↓hl]
  clear hl
  simp (disch := decide) only [rd2, rdM]
  unfold_payloads
  pointwise [ValueKit.rect_emb_unit_val]
  simp only [row_bv, at2_ix2, at3_ix3, Bp, pool, cnt, Finset.sum_range_succ, Finset.sum_range_zero, zero_add]
  simp

theorem pool3 (r : Fin 512) (e : Fin 128) : k0_pay1 (kernelRun0_A.sl.r_429 (F := Ideal) i) (kernelRun0_A.sl.v7300 c i arg1 harg1 arg2 harg2 arg12 x0 x1)
          (kernelRun0_A.sl.r_430 c i arg1 harg1 arg2 harg2 arg12 x0 x1)
          (kernelRun0_A.sl.v7317 c i arg1 harg1 arg2 harg2 arg12 x0 x1)
          (kernelRun0_A.sl.v7319 c i arg1 harg1 arg2 harg2 arg12 x0 x1)
          (kernelRun0_A.sl.v7321 c i arg1 harg1 arg2 harg2 arg12 x0 x1)
          (kernelRun0_A.sl.v7323 c i arg1 harg1 arg2 harg2 arg12 x0 x1)
          (kernelRun0_A.sl.v7325 c i arg1 harg1 arg2 harg2 arg12 x0 x1)
          (kernelRun0_A.sl.v7327 c i arg1 harg1 arg2 harg2 arg12 x0 x1)
          (kernelRun0_A.sl.v7329 c i arg1 harg1 arg2 harg2 arg12 x0 x1)
          (View.readAt (Elt Ideal) arg7.view
            (Rect.unit (s := S4x128x128) ![3, 0, 0] ![1, 128, 128] inb_S4x128x128_S1x128x128_3_0_0).toLoadRect (harg7.unread x6))
          (View.readAt (Elt Ideal) arg8.view (Rect.unit (s := S1x512) ![0, 384] ![1, 128] inb_S1x512_S1x128_0_384).toLoadRect
            (harg8.unread x7)) (ix2 r e) = Bp i x0 x1 x6 x7 3 16 r.val e.val := by
  have hl := loadP c i arg1 harg1 arg2 harg2 arg12 x0 x1
  frame_open at hl
  frame_open
  simp (disch := decide) only [↓hl]
  clear hl
  simp (disch := decide) only [rd2, rdM]
  unfold_payloads
  pointwise [ValueKit.rect_emb_unit_val]
  simp only [row_bv, at2_ix2, at3_ix3, Bp, pool, cnt, Finset.sum_range_succ, Finset.sum_range_zero, zero_add]
  simp

end Cert.Proof.SeqFwd
-- ==== Proof.SeqFwdMix.lean ====
module

public import proofs.«01_k».proof.Proof.SeqFwdPool

@[expose] public section

set_option maxRecDepth 16384

/-! # Both mixers of the forward, over a block -/

noncomputable section

namespace Cert.Proof.SeqFwd

open Idealize.ShloMosaic Idealize.ShloMosaic.TcCoe Idealize.SL.Sem
open Cert.SeqFwdIdeal Cert.SeqFwdIdeal.Gen

variable (c : Dev nD) (i : grid0.Coords) (arg1 : Memref sig Kind.tc Space.vmem S512x1536 EltTy.f32) (harg1 : arg1.IsWhole)
  (arg2 : Memref sig Kind.tc Space.vmem S32x1536 EltTy.f32) (harg2 : arg2.IsWhole)
  (arg3 : Memref sig Kind.tc Space.vmem S4x31x1x128 EltTy.f32) (harg3 : arg3.IsWhole)
  (arg4 : Memref sig Kind.tc Space.vmem S1x512 EltTy.f32) (harg4 : arg4.IsWhole)
  (arg5 : Memref sig Kind.tc Space.vmem S1x512 EltTy.f32) (harg5 : arg5.IsWhole)
  (arg6 : Memref sig Kind.tc Space.vmem S1x512 EltTy.f32) (harg6 : arg6.IsWhole)
  (arg7 : Memref sig Kind.tc Space.vmem S4x128x128 EltTy.f32) (harg7 : arg7.IsWhole)
  (arg8 : Memref sig Kind.tc Space.vmem S1x512 EltTy.f32) (harg8 : arg8.IsWhole)
  (arg9 : Memref sig Kind.tc Space.vmem S512x1024 EltTy.bf16) (harg9 : arg9.IsWhole)
  (arg10 : Memref sig Kind.tc Space.vmem S512x512 EltTy.f32) (harg10 : arg10.IsWhole)
  (arg11 : Memref sig Kind.tc Space.vmem S8x544x512 EltTy.f32) (harg11 : arg11.IsWhole)
  (arg12 : Memref sig Kind.tc Space.vmem S544x512 EltTy.f32) (harg12 : arg12.IsWhole)
  (x0 : Vec Ideal S512x1536 EltTy.f32) (x1 : Vec Ideal S32x1536 EltTy.f32) (x2 : Vec Ideal S4x31x1x128 EltTy.f32)
  (x3 x4 x5 : Vec Ideal S1x512 EltTy.f32) (x6 : Vec Ideal S4x128x128 EltTy.f32) (x7 : Vec Ideal S1x512 EltTy.f32)

set_option maxHeartbeats 2000000

/-- The gated norm of the filter's rows. -/
def Bl (i : grid0.Coords) (x0 : FVec Ideal S512x1536 .f32) (x1 : FVec Ideal S32x1536 .f32) (x2 : FVec Ideal S4x31x1x128 .f32)
    (x3 x4 x5 : FVec Ideal S1x512 .f32) (r e : Fin 512) : EReal :=
  gl (lnv (fun k => Cv i x0 x1 x2 x3 (ix2 r k)) (at2 x4 0 e.val) (at2 x5 0 e.val) e) (lnv (fun k => Cv i x0 x1 x2 x3 (ix2 r k)) (at2 x4 0 e.val) (at2 x5 0 e.val) e)

theorem half (r e : Fin 512) : k0_pay457 (F := Ideal) (kernelRun0_A.sl.v7178 c i arg1 harg1 arg2 harg2 arg3 harg3 arg4 harg4 arg10 arg11 x0 x1 x2 x3)
          (View.readAt (Elt Ideal) arg5.view (Rect.unit (s := S1x512) ![0, 0] ![1, 512] inb_S1x512_S1x512_0_0).toLoadRect
            (harg5.unread x4))
          (View.readAt (Elt Ideal) arg6.view (Rect.unit (s := S1x512) ![0, 0] ![1, 512] inb_S1x512_S1x512_0_0).toLoadRect
            (harg6.unread x5)) (ix2 r e) = Bl i x0 x1 x2 x3 x4 x5 r e := by
  have hv : kernelRun0_A.sl.v7178 c i arg1 harg1 arg2 harg2 arg3 harg3 arg4 harg4 arg10 arg11 x0 x1 x2 x3 = Cv i x0 x1 x2 x3 := by
    unfold kernelRun0_A.sl.v7178
    rw [View.readCov_eq_canon', canon_conv]
    funext j
    refine congrArg (Cv i x0 x1 x2 x3) (funext fun a => Fin.ext ?_)
    refine (ValueKit.rect_emb_unit_val _ _ inb_S512x512_S512x512_0_0 j a).trans ?_
    fin_cases a <;> simp
  rw [hv]
  simp (disch := decide) only [rd2]
  unfold_payloads
  pointwise [Bl, lnv, gl]

/-- Both mixers over the block, side by side. -/
def Yb (i : grid0.Coords) (x0 : FVec Ideal S512x1536 .f32) (x1 : FVec Ideal S32x1536 .f32) (x2 : FVec Ideal S4x31x1x128 .f32)
    (x3 x4 x5 : FVec Ideal S1x512 .f32) (x6 : FVec Ideal S4x128x128 .f32) (x7 : FVec Ideal S1x512 .f32) (y : S512x1024.Idx) : EReal :=
  if h : (y 1).val < 512 then Bl i x0 x1 x2 x3 x4 x5 (y 0) ⟨(y 1).val, h⟩
  else if (y 1).val < 640 then Bp i x0 x1 x6 x7 0 2 (y 0).val ((y 1).val - 512)
  else if (y 1).val < 768 then Bp i x0 x1 x6 x7 1 4 (y 0).val ((y 1).val - 640)
  else if (y 1).val < 896 then Bp i x0 x1 x6 x7 2 8 (y 0).val ((y 1).val - 768)
  else Bp i x0 x1 x6 x7 3 16 (y 0).val ((y 1).val - 896)

theorem Yb_half (y : S512x1024.Idx) (r e : Fin 512) (h0 : (y 0).val = 0 + r.val) (h1 : (y 1).val = 0 + e.val) :
    Bl i x0 x1 x2 x3 x4 x5 r e = Yb i x0 x1 x2 x3 x4 x5 x6 x7 y := by
  have hr : y 0 = r := Fin.ext (by omega)
  have he : (⟨(y 1).val, by omega⟩ : Fin 512) = e := Fin.ext (by simp only; omega)
  unfold Yb
  rw [dif_pos (by omega), hr, he]

theorem Yb_pool (y : S512x1024.Idx) (g w : ℕ) (r : Fin 512) (e : Fin 128) (h0 : (y 0).val = 0 + r.val) (h1 : (y 1).val = 512 + 128 * g + e.val)
    (hg : g = 0 ∧ w = 2 ∨ g = 1 ∧ w = 4 ∨ g = 2 ∧ w = 8 ∨ g = 3 ∧ w = 16) :
    Bp i x0 x1 x6 x7 g w r.val e.val = Yb i x0 x1 x2 x3 x4 x5 x6 x7 y := by
  have he := e.isLt
  have h0' : (y 0).val = r.val := by omega
  unfold Yb
  rcases hg with ⟨rfl, rfl⟩ | ⟨rfl, rfl⟩ | ⟨rfl, rfl⟩ | ⟨rfl, rfl⟩
  all_goals
    split_ifs
    all_goals first | omega | exact congrArg₂ (Bp i x0 x1 x6 x7 _ _) h0'.symm (by omega)

theorem mixers : View.PiecesOf (Val := Elt Ideal) (s := S512x1024) (e := .bf16) (Yb i x0 x1 x2 x3 x4 x5 x6 x7)
    (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7).1 := by
  unfold kernelRun0_A
  dsimp only
  refine ⟨fun x => ?_, fun x => ?_, fun x => ?_, fun x => ?_, fun x => ?_, trivial⟩
  · obtain ⟨r, e, rfl⟩ : ∃ (r : Fin 512) (e : Fin 128), x = ix2 r e := ⟨x 0, x 1, (ix2_eta x).symm⟩
    exact (pool3 c i arg1 harg1 arg2 harg2 arg7 harg7 arg8 harg8 arg12 x0 x1 x6 x7 r e).trans
      (Yb_pool i x0 x1 x2 x3 x4 x5 x6 x7 _ 3 16 r e (ValueKit.rect_emb_unit_val _ _ inb_S512x1024_S512x128_0_896 _ 0)
        (ValueKit.rect_emb_unit_val _ _ inb_S512x1024_S512x128_0_896 _ 1) (by decide))
  · obtain ⟨r, e, rfl⟩ : ∃ (r : Fin 512) (e : Fin 128), x = ix2 r e := ⟨x 0, x 1, (ix2_eta x).symm⟩
    exact (pool2 c i arg1 harg1 arg2 harg2 arg7 harg7 arg8 harg8 arg12 x0 x1 x6 x7 r e).trans
      (Yb_pool i x0 x1 x2 x3 x4 x5 x6 x7 _ 2 8 r e (ValueKit.rect_emb_unit_val _ _ inb_S512x1024_S512x128_0_768 _ 0)
        (ValueKit.rect_emb_unit_val _ _ inb_S512x1024_S512x128_0_768 _ 1) (by decide))
  · obtain ⟨r, e, rfl⟩ : ∃ (r : Fin 512) (e : Fin 128), x = ix2 r e := ⟨x 0, x 1, (ix2_eta x).symm⟩
    exact (pool1 c i arg1 harg1 arg2 harg2 arg7 harg7 arg8 harg8 arg12 x0 x1 x6 x7 r e).trans
      (Yb_pool i x0 x1 x2 x3 x4 x5 x6 x7 _ 1 4 r e (ValueKit.rect_emb_unit_val _ _ inb_S512x1024_S512x128_0_640 _ 0)
        (ValueKit.rect_emb_unit_val _ _ inb_S512x1024_S512x128_0_640 _ 1) (by decide))
  · obtain ⟨r, e, rfl⟩ : ∃ (r : Fin 512) (e : Fin 128), x = ix2 r e := ⟨x 0, x 1, (ix2_eta x).symm⟩
    exact (pool0 c i arg1 harg1 arg2 harg2 arg7 harg7 arg8 harg8 arg12 x0 x1 x6 x7 r e).trans
      (Yb_pool i x0 x1 x2 x3 x4 x5 x6 x7 _ 0 2 r e (ValueKit.rect_emb_unit_val _ _ inb_S512x1024_S512x128_0_512 _ 0)
        (ValueKit.rect_emb_unit_val _ _ inb_S512x1024_S512x128_0_512 _ 1) (by decide))
  · obtain ⟨r, e, rfl⟩ : ∃ (r : Fin 512) (e : Fin 512), x = ix2 r e := ⟨x 0, x 1, (ix2_eta x).symm⟩
    exact (half c i arg1 harg1 arg2 harg2 arg3 harg3 arg4 harg4 arg5 harg5 arg6 harg6 arg10 arg11 x0 x1 x2 x3 x4 x5 r e).trans
      (Yb_half i x0 x1 x2 x3 x4 x5 x6 x7 _ r e (ValueKit.rect_emb_unit_val _ _ inb_S512x1024_S512x512_0_0 _ 0)
        (ValueKit.rect_emb_unit_val _ _ inb_S512x1024_S512x512_0_0 _ 1))

end Cert.Proof.SeqFwd
-- ==== Proof.SeqFwdRef.lean ====
module

public import proofs.«01_k».proof.Proof.SeqFwdMath
public import proofs.«01_k».proof.Proof.Gen.SeqFwdRefIdeal.Read

@[expose] public section

set_option maxRecDepth 16384

/-! # The reference of the mixers, evaluated -/

noncomputable section

namespace Cert.Proof.SeqFwd

open Idealize.ShloMosaic
open Cert.SeqFwdRefIdeal Cert.SeqFwdRefIdeal.Read

theorem sitofp_zero : FloatOps.sitofp (F := Ideal) FTy.f32 (0#32) = (0 : EReal) := by
  show (((0#32).toInt : ℝ) : EReal) = 0
  simp

theorem pad_u (x0 : FVec Ideal S4096x1536 .f32) (q : Fin 4126) (e : Fin 512) :
    val_main_v13 (F := Ideal) x0 (ix2 q e) = uz x0 q.val e.val := by
  have hq := q.isLt
  pointwise [uz, gl, val_main_v0, val_main_v1, val_main_v2, val_main_v3, val_main_v4, val_main_v5, val_main_v6, val_main_v7, val_main_cst, val_main_v8, val_main_v9, val_main_cst_0, val_main_v10, val_main_v11, val_main_v12, val_main_c, val_main_call0_v0, val_main_v13]
  simp only [at2_ix2, zero_sub]
  split_ifs
  · omega
  · rfl
  · exact sitofp_zero
  · omega

theorem wt (x1 : FVec Ideal S4x31x1x128 .f32) (k : Fin 31) (e : Fin 512) :
    val_main_v2 (F := Ideal) x1 (ix2 k e) = W x1 k.val e.val := by
  pointwise [val_main_v0, val_main_v1, val_main_v2]
  simp [W]

set_option maxHeartbeats 2000000 in
theorem refV_at (x0 : FVec Ideal S4096x1536 .f32) (x1 : FVec Ideal S4x31x1x128 .f32) (x2 : FVec Ideal S1x512 .f32) (n : Fin 4096) (e : Fin 512) :
    val_main_v235 (F := Ideal) x0 x1 x2 (ix2 n e) = Gv x0 x1 x2 (ix2 n e) := by
  pointwise [Gv, val_main_v14, val_main_v15, val_main_v16, val_main_v17, val_main_v18, val_main_v19, val_main_cst_1, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235]
  simp only [pad_u, wt]
  simp only [at2_ix2, Fin.sum_univ_castSucc]
  simp

theorem refV (x0 : FVec Ideal S4096x1536 .f32) (x1 : FVec Ideal S4x31x1x128 .f32) (x2 : FVec Ideal S1x512 .f32) :
    val_main_v235 (F := Ideal) x0 x1 x2 = Gv x0 x1 x2 := by
  funext y
  rw [← ix2_eta y]
  exact refV_at x0 x1 x2 _ _

set_option maxHeartbeats 2000000 in
theorem refLn (x0 : FVec Ideal S4096x1536 .f32) (x1 : FVec Ideal S4x31x1x128 .f32) (x2 x3 x4 : FVec Ideal S1x512 .f32) (n : Fin 4096) (e : Fin 512) :
    val_main_v261 (F := Ideal) x0 x1 x2 x3 x4 (ix2 n e) = lnv (fun k => Gv x0 x1 x2 (ix2 n k)) (at2 x3 0 e.val) (at2 x4 0 e.val) e := by
  have hv := refV x0 x1 x2
  pointwise [lnv, val_main_v236, val_main_v237, val_main_cst_2, val_main_v238, val_main_v239, val_main_cst_3, val_main_v240, val_main_v241, val_main_v242, val_main_v243, val_main_v244, val_main_cst_4, val_main_v245, val_main_v246, val_main_cst_5, val_main_v247, val_main_v248, val_main_v249, val_main_v250, val_main_cst_6, val_main_v251, val_main_v252, val_main_v253, val_main_v254, val_main_v255, val_main_v256, val_main_v257, val_main_v258, val_main_v259, val_main_v260, val_main_v261, hv]
  simp only [at2_ix2]
  rfl

end Cert.Proof.SeqFwd
-- ==== Proof.SeqFwdSum.lean ====
module

public import proofs.«01_k».proof.Proof.Gen.SeqFwdRefIdeal.Read
public import Idealize.ShloMosaic.Lib.Pointwise

@[expose] public section

set_option maxRecDepth 16384

/-! # Running sums down the rows -/

noncomputable section

namespace Cert.Proof.SeqFwd

open Idealize.ShloMosaic

theorem foldl_add {α : Type} (g : α → EReal) (l : List α) (a : EReal) : l.foldl (fun r n => r + g n) a = a + (l.map g).sum := by
  induction l generalizing a with
  | nil => simp
  | cons x l ih => rw [List.foldl_cons, ih, List.map_cons, List.sum_cons, add_assoc]

/-- A window of all the rows, padded above by all but one of them: the sum of the rows so far. -/
theorem prefix_sum (x : FVec Ideal ⟨2, ![4096, 128]⟩ .f32) (init : FVec Ideal ⟨0, ![]⟩ .f32) (h) (hu) (h0 : init (Shape.Idx.first hu) = 0)
    (n : Fin 4096) (e : Fin 128) :
    Host.reduceWindowAdd (s := ⟨2, ![4096, 128]⟩) (t := ⟨2, ![4096, 128]⟩) ![4096, 1] ![1, 1] ![4095, 0] ![0, 0] x init h hu (ix2 n e)
      = ∑ j ∈ Finset.range (n.val + 1), if hj : j < 4096 then x (ix2 ⟨j, hj⟩ e) else 0 := by
  show List.foldl _ _ _ = _
  rw [h0]
  rw [foldl_add, zero_add, ← List.ofFn_eq_map, List.sum_ofFn]
  let f : ℕ → EReal := fun j => if hj : j < 4096 then x (ix2 ⟨j, hj⟩ e) else 0
  let H : ℕ → EReal := fun k => if 4095 ≤ n.val + k then f (n.val + k - 4095) else 0
  let W : Shape := ⟨2, ![4096, 1]⟩
  have hn := n.isLt
  have key : ∀ (q : W.Idx) (D : Decidable (∀ a : Fin 2, ![4095, 0] a ≤ (ix2 n e a).val * ![1, 1] a + (q a).val
        ∧ (ix2 n e a).val * ![1, 1] a + (q a).val - ![4095, 0] a < ![4096, 128] a)), @dite EReal (∀ a : Fin 2, ![4095, 0] a ≤ (ix2 n e a).val * ![1, 1] a + (q a).val
        ∧ (ix2 n e a).val * ![1, 1] a + (q a).val - ![4095, 0] a < ![4096, 128] a) D
      (fun hin => x (fun a => ⟨(ix2 n e a).val * ![1, 1] a + (q a).val - ![4095, 0] a, (hin a).2⟩)) (fun _ => 0) = H (q 0).val := by
    intro q D
    have hq : (q 0).val < 4096 := (q 0).isLt
    have hq1 : (q 1).val < 1 := (q 1).isLt
    by_cases hc : 4095 ≤ n.val + (q 0).val
    · rw [dif_pos]
      · show _ = ite _ _ _
        rw [if_pos hc]
        show _ = dite _ _ _
        rw [dif_pos (show n.val + (q 0).val - 4095 < 4096 by omega)]
        refine congrArg x (funext fun a => Fin.ext ?_)
        fin_cases a
        · show n.val * 1 + (q 0).val - 4095 = n.val + (q 0).val - 4095
          omega
        · show e.val * 1 + (q 1).val - 0 = e.val
          omega
      · intro a
        fin_cases a
        · show 4095 ≤ n.val * 1 + (q 0).val ∧ n.val * 1 + (q 0).val - 4095 < 4096
          omega
        · show 0 ≤ e.val * 1 + (q 1).val ∧ e.val * 1 + (q 1).val - 0 < 128
          have := e.isLt
          omega
    · rw [dif_neg]
      · show _ = ite _ _ _
        rw [if_neg hc]
      · intro hin
        have h1 : 4095 ≤ n.val * 1 + (q 0).val := (hin 0).1
        omega
  refine (Finset.sum_congr rfl (g := fun i => H ((W.rowMajor.symm i) 0).val) fun i _ => ?_).trans ?_
  · exact key (W.rowMajor.symm i) _
  refine (Equiv.sum_comp W.rowMajor.symm fun q => H (q 0).val).trans ?_
  rw [sum_idx2]
  simp only [Fin.sum_univ_one]
  refine (Fin.sum_univ_eq_sum_range H 4096).trans ?_
  have hs : Finset.range 4096 = Finset.range ((4095 - n.val) + (n.val + 1)) := congrArg Finset.range (by omega)
  rw [hs, Finset.sum_range_add]
  rw [Finset.sum_eq_zero, zero_add]
  · refine Finset.sum_congr rfl fun j _ => ?_
    show ite _ _ _ = _
    rw [if_pos (by omega), show n.val + (4095 - n.val + j) - 4095 = j by omega]
  · intro j hj
    rw [Finset.mem_range] at hj
    show ite _ _ _ = _
    rw [if_neg (by omega)]
-- ==== Proof.SeqFwdRefP.lean ====
module

public import proofs.«01_k».proof.Proof.SeqFwdRef
public import proofs.«01_k».proof.Proof.SeqFwdSum

@[expose] public section

set_option maxRecDepth 16384

/-! # The windows of the reference -/

noncomputable section

namespace Cert.Proof.SeqFwd

open Idealize.ShloMosaic
open Cert.SeqFwdRefIdeal Cert.SeqFwdRefIdeal.Gen Cert.SeqFwdRefIdeal.Read

theorem sum_back (g : ℕ → ℝ) (n w : ℕ) :
    (∑ j ∈ Finset.range (n + 1), g j) - (if w ≤ n then ∑ j ∈ Finset.range (n - w + 1), g j else 0)
      = ∑ d ∈ Finset.range w, if d ≤ n then g (n - d) else 0 := by
  induction w with
  | zero => simp
  | succ w ih =>
    rw [Finset.sum_range_succ (fun d => if d ≤ n then g (n - d) else 0), ← ih]
    rcases lt_trichotomy w n with h | h | h
    · rw [if_pos (by omega : w + 1 ≤ n), if_pos h.le, if_pos h.le, Finset.sum_range_succ _ (n - w), show n - (w + 1) + 1 = n - w by omega]
      ring
    · subst h
      simp
    · rw [if_neg (by omega), if_neg (by omega), if_neg (by omega)]
      ring

/-- Of entries that are numbers, the difference of two running sums is the sum of what lies between. -/
theorem sum_back_ereal (f : ℕ → EReal) (hf : ∀ j, ∃ r : ℝ, f j = r) (n w : ℕ) :
    (∑ j ∈ Finset.range (n + 1), f j) - (if w ≤ n then ∑ j ∈ Finset.range (n - w + 1), f j else 0)
      = ∑ d ∈ Finset.range w, if d ≤ n then f (n - d) else 0 := by
  choose g hg using hf
  have h := congrArg (fun r : ℝ => (r : EReal)) (sum_back g n w)
  simp only [hg]
  have hs : ∀ (s : Finset ℕ) (g : ℕ → ℝ), ((∑ j ∈ s, g j : ℝ) : EReal) = ∑ j ∈ s, (g j : EReal) := fun s g => map_sum (⟨⟨Real.toEReal, EReal.coe_zero⟩, EReal.coe_add⟩ : ℝ →+ EReal) g s
  have hc : ∀ (p : Prop) [Decidable p] (a : ℝ), ((if p then a else 0 : ℝ) : EReal) = if p then (a : EReal) else 0 := fun p _ a => by
    split_ifs <;> rfl
  simpa only [EReal.coe_sub, hs, hc] using h

/-- The difference of two running sums down the rows. -/
theorem lag_sum (seg : FVec Ideal S4096x128 .f32) (init : FVec Ideal S_ .f32) (h) (h0 : init (Shape.Idx.first h_S_) = 0)
    (f : ℕ → ℕ → EReal) (hf : ∀ j e, ∃ r : ℝ, f j e = r) (hs : ∀ (n : Fin 4096) (e : Fin 128), seg (ix2 n e) = f n.val e.val) (w : ℕ) (n : Fin 4096) (e : Fin 128) :
    (Host.reduceWindowAdd (t := S4096x128) ![4096, 1] ![1, 1] ![4095, 0] ![0, 0] seg init h h_S_ (ix2 n e)
      - if h1 : w ≤ n.val ∧ n.val - w < 4096 then Host.reduceWindowAdd (t := S4096x128) ![4096, 1] ![1, 1] ![4095, 0] ![0, 0] seg init h h_S_ (ix2 ⟨n.val - w, h1.2⟩ e)
        else FloatOps.sitofp (F := Ideal) FTy.f32 (0#32))
      = ∑ d ∈ Finset.range w, if d ≤ n.val then f (n.val - d) e.val else 0 := by
  have hn := n.isLt
  have hp : ∀ (n : Fin 4096), Host.reduceWindowAdd (t := S4096x128) ![4096, 1] ![1, 1] ![4095, 0] ![0, 0] seg init h h_S_ (ix2 n e)
      = ∑ j ∈ Finset.range (n.val + 1), f j e.val := fun n =>
    (prefix_sum seg init h h_S_ h0 n e).trans (Finset.sum_congr rfl fun j hj => by
      have := Finset.mem_range.mp hj
      rw [dif_pos (by omega : j < 4096), hs])
  rw [← sum_back_ereal (fun j => f j e.val) (fun j => hf j e.val), hp]
  congr 1
  by_cases h1 : w ≤ n.val
  · rw [dif_pos ⟨h1, by omega⟩, if_pos h1, hp]
  · rw [dif_neg (fun h2 => h1 h2.1), if_neg h1]
    exact sitofp_zero

set_option maxHeartbeats 2000000 in
theorem refPool0 (x0 : FVec Ideal S4096x1536 .f32) (x5 : FVec Ideal S4x128x128 .f32) (hz : ∀ j c, ∃ r : ℝ, at2 x0 j (1024 + c) = r) (n : Fin 4096) (e : Fin 128) :
    val_main_v280 (F := Ideal) x0 x5 (ix2 n e) = pool (fun d x => back x0 n.val d (128 * 0 + x)) 2 (cnt n.val 2) (fun x => at3 x5 0 x e.val) := by
  have hs : ∀ (n : Fin 4096) (e : Fin 128), val_main_v264 (F := Ideal) x0 (ix2 n e) = at2 x0 n.val (1024 + (128 * 0 + e.val)) := fun n e => by
    pointwise [val_main_v5, val_main_v264]
    exact at2_ix2 _ _ _
  have hl := lag_sum (val_main_v264 (F := Ideal) x0) (val_main_call2_call0_v0 (F := Ideal)) reduceWindows_S4096x128_S4096x128_w4096s1p4095_0_w1s1p0_0
    (by pointwise [val_main_call2_call0_v0, val_main_call2_call0_cst]) _ (fun j e => hz j (128 * 0 + e)) hs 2 n
  pointwise [val_main_v5, val_main_v263, val_main_call2_call0_cst, val_main_call2_call0_v0, val_main_c_7, val_main_call3_v0, val_main_v266, val_main_v267, val_main_c_8, val_main_v268, val_main_v269, val_main_c_9, val_main_v270, val_main_v271, val_main_v272, val_main_v273, val_main_v274, val_main_v275, val_main_v276, val_main_v277, val_main_v278, val_main_v279, val_main_v280]
  unfold val_main_v265
  simp only [hl, hs, at3_ix3, pool, back, cnt, Nat.sub_zero, Nat.zero_le, if_true]
  rfl

set_option maxHeartbeats 2000000 in
theorem refPool1 (x0 : FVec Ideal S4096x1536 .f32) (x5 : FVec Ideal S4x128x128 .f32) (hz : ∀ j c, ∃ r : ℝ, at2 x0 j (1024 + c) = r) (n : Fin 4096) (e : Fin 128) :
    val_main_v297 (F := Ideal) x0 x5 (ix2 n e) = pool (fun d x => back x0 n.val d (128 * 1 + x)) 4 (cnt n.val 4) (fun x => at3 x5 1 x e.val) := by
  have hs : ∀ (n : Fin 4096) (e : Fin 128), val_main_v281 (F := Ideal) x0 (ix2 n e) = at2 x0 n.val (1024 + (128 * 1 + e.val)) := fun n e => by
    pointwise [val_main_v5, val_main_v281]
    exact at2_ix2 _ _ _
  have hl := lag_sum (val_main_v281 (F := Ideal) x0) (val_main_call4_call0_v0 (F := Ideal)) reduceWindows_S4096x128_S4096x128_w4096s1p4095_0_w1s1p0_0
    (by pointwise [val_main_call4_call0_v0, val_main_call4_call0_cst]) _ (fun j e => hz j (128 * 1 + e)) hs 4 n
  pointwise [val_main_v5, val_main_v263, val_main_call4_call0_cst, val_main_call4_call0_v0, val_main_c_10, val_main_call5_v0, val_main_v283, val_main_v284, val_main_c_11, val_main_v285, val_main_v286, val_main_c_12, val_main_v287, val_main_v288, val_main_v289, val_main_v290, val_main_v291, val_main_v292, val_main_v293, val_main_v294, val_main_v295, val_main_v296, val_main_v297]
  unfold val_main_v282
  simp only [hl, hs, at3_ix3, pool, back, cnt, Nat.sub_zero, Nat.zero_le, if_true]
  rfl

set_option maxHeartbeats 2000000 in
theorem refPool2 (x0 : FVec Ideal S4096x1536 .f32) (x5 : FVec Ideal S4x128x128 .f32) (hz : ∀ j c, ∃ r : ℝ, at2 x0 j (1024 + c) = r) (n : Fin 4096) (e : Fin 128) :
    val_main_v314 (F := Ideal) x0 x5 (ix2 n e) = pool (fun d x => back x0 n.val d (128 * 2 + x)) 8 (cnt n.val 8) (fun x => at3 x5 2 x e.val) := by
  have hs : ∀ (n : Fin 4096) (e : Fin 128), val_main_v298 (F := Ideal) x0 (ix2 n e) = at2 x0 n.val (1024 + (128 * 2 + e.val)) := fun n e => by
    pointwise [val_main_v5, val_main_v298]
    exact at2_ix2 _ _ _
  have hl := lag_sum (val_main_v298 (F := Ideal) x0) (val_main_call6_call0_v0 (F := Ideal)) reduceWindows_S4096x128_S4096x128_w4096s1p4095_0_w1s1p0_0
    (by pointwise [val_main_call6_call0_v0, val_main_call6_call0_cst]) _ (fun j e => hz j (128 * 2 + e)) hs 8 n
  pointwise [val_main_v5, val_main_v263, val_main_call6_call0_cst, val_main_call6_call0_v0, val_main_c_13, val_main_call7_v0, val_main_v300, val_main_v301, val_main_c_14, val_main_v302, val_main_v303, val_main_c_15, val_main_v304, val_main_v305, val_main_v306, val_main_v307, val_main_v308, val_main_v309, val_main_v310, val_main_v311, val_main_v312, val_main_v313, val_main_v314]
  unfold val_main_v299
  simp only [hl, hs, at3_ix3, pool, back, cnt, Nat.sub_zero, Nat.zero_le, if_true]
  rfl

set_option maxHeartbeats 2000000 in
theorem refPool3 (x0 : FVec Ideal S4096x1536 .f32) (x5 : FVec Ideal S4x128x128 .f32) (hz : ∀ j c, ∃ r : ℝ, at2 x0 j (1024 + c) = r) (n : Fin 4096) (e : Fin 128) :
    val_main_v331 (F := Ideal) x0 x5 (ix2 n e) = pool (fun d x => back x0 n.val d (128 * 3 + x)) 16 (cnt n.val 16) (fun x => at3 x5 3 x e.val) := by
  have hs : ∀ (n : Fin 4096) (e : Fin 128), val_main_v315 (F := Ideal) x0 (ix2 n e) = at2 x0 n.val (1024 + (128 * 3 + e.val)) := fun n e => by
    pointwise [val_main_v5, val_main_v315]
    exact at2_ix2 _ _ _
  have hl := lag_sum (val_main_v315 (F := Ideal) x0) (val_main_call8_call0_v0 (F := Ideal)) reduceWindows_S4096x128_S4096x128_w4096s1p4095_0_w1s1p0_0
    (by pointwise [val_main_call8_call0_v0, val_main_call8_call0_cst]) _ (fun j e => hz j (128 * 3 + e)) hs 16 n
  pointwise [val_main_v5, val_main_v263, val_main_call8_call0_cst, val_main_call8_call0_v0, val_main_c_16, val_main_call9_v0, val_main_v317, val_main_v318, val_main_c_17, val_main_v319, val_main_v320, val_main_c_18, val_main_v321, val_main_v322, val_main_v323, val_main_v324, val_main_v325, val_main_v326, val_main_v327, val_main_v328, val_main_v329, val_main_v330, val_main_v331]
  unfold val_main_v316
  simp only [hl, hs, at3_ix3, pool, back, cnt, Nat.sub_zero, Nat.zero_le, if_true]
  rfl

end Cert.Proof.SeqFwd
-- ==== Proof.SeqFwdRefY.lean ====
module

public import proofs.«01_k».proof.Proof.SeqFwdRefP

@[expose] public section

set_option maxRecDepth 16384

/-! # The reference of both mixers, evaluated -/

noncomputable section

namespace Cert.Proof.SeqFwd

open Idealize.ShloMosaic
open Cert.SeqFwdRefIdeal Cert.SeqFwdRefIdeal.Gen Cert.SeqFwdRefIdeal.Read

set_option maxHeartbeats 2000000 in
theorem refY (x0 : FVec Ideal S4096x1536 .f32) (x1 : FVec Ideal S4x31x1x128 .f32) (x2 x3 x4 : FVec Ideal S1x512 .f32) (x5 : FVec Ideal S4x128x128 .f32) (x6 : FVec Ideal S1x512 .f32)
    (hz : ∀ j c, ∃ r : ℝ, at2 x0 j (1024 + c) = r) (n : Fin 4096) (e : Fin 1024) :
    val_main_v338 (F := Ideal) x0 x1 x2 x3 x4 x5 x6 (ix2 n e) = Gy x0 x1 x2 x3 x4 x5 x6 (ix2 n e) := by
  have hl := refLn x0 x1 x2 x3 x4
  have h0 := refPool0 x0 x5 hz
  have h1 := refPool1 x0 x5 hz
  have h2 := refPool2 x0 x5 hz
  have h3 := refPool3 x0 x5 hz
  pointwise [val_main_call1_v0, val_main_call1_v1, val_main_call1_cst, val_main_call1_v2, val_main_call1_v3, val_main_call1_cst_0, val_main_call1_v4, val_main_call1_v5, val_main_v262, val_main_v332, val_main_v333, val_main_v334, val_main_v335, val_main_v336, val_main_v337, val_main_v338, hl, h0, h1, h2, h3]
  have he := e.isLt
  simp only [at2_ix2, Gy, Gp, gl, Nat.sub_sub, Nat.reduceAdd, Nat.reduceMul, zero_sub]
  have h0 : (ix2 n e 0).val = n.val := rfl
  have h1 : (ix2 n e 1).val = e.val := rfl
  have h2 : ix2 n e 0 = n := rfl
  simp only [h0, h1, h2, at2_ix2, zero_add]
  split_ifs
  all_goals first | omega | rfl | exact congrArg (fun a => _ * at2 x6 0 a) (by omega)

end Cert.Proof.SeqFwd
-- ==== Proof.SeqFwdValue.lean ====
module

public import proofs.«01_k».proof.Proof.SeqFwdMix
public import proofs.«01_k».proof.Proof.SeqFwdRefY
public import proofs.«01_k».proof.Proof.Gen.SeqFwdIdeal.Value

@[expose] public section

set_option maxRecDepth 16384

/-! # What the forward's mixers leave -/

noncomputable section

namespace Cert.Proof.SeqFwd

open Idealize.ShloMosaic Idealize.ShloMosaic.TcCoe Idealize.SL.Sem
open Cert.SeqFwdIdeal Cert.SeqFwdIdeal.Gen

variable (m : (ℓ : Loc nD τ sig) → Buf (Elt Ideal) ℓ)

theorem idx : ∀ t : Fin cfg0.N, win0_0.index t = ![t.val, 0] ∧ win0_1.index t = ![16 * t.val - 1, 0] ∧ win0_2.index t = ![0, 0, 0, 0]
    ∧ win0_3.index t = ![0, 0] ∧ win0_4.index t = ![0, 0] ∧ win0_5.index t = ![0, 0] ∧ win0_6.index t = ![0, 0, 0] ∧ win0_7.index t = ![0, 0]
    ∧ win0_8.index t = ![t.val, 0] ∧ win0_9.index t = ![t.val, 0] ∧ (grid0.coords t 0).val = t.val :=
  (by decide +kernel : ∀ t : Fin grid0.N, _)

theorem v_block (c : Dev nD) (t : Fin cfg0.N) :
    (outsAt0 (F := Ideal) m c t).2 = Cv (grid0.coords t) (iblk m c 0 t) (iblk m c 1 t) (iblk m c 2 t) (iblk m c 3 t) := by
  unfold outsAt0
  dsimp only
  unfold out0_A_9
  rw [View.read_writes_junk_eq_canon]
  unfold kernelRun0_A
  exact canon_conv ..

theorem y_block (c : Dev nD) (t : Fin cfg0.N) :
    (outsAt0 (F := Ideal) m c t).1 = Yb (grid0.coords t) (iblk m c 0 t) (iblk m c 1 t) (iblk m c 2 t) (iblk m c 3 t) (iblk m c 4 t) (iblk m c 5 t) (iblk m c 6 t) (iblk m c 7 t) := by
  unfold outsAt0
  dsimp only
  unfold out0_A_8
  rw [View.read_writes_junk_eq_canon]
  funext y
  exact View.canon_apply_of_pieces _ _ (mixers ..).mem _ (cover0_A_8 (F := Ideal) c _ _ _ _ _ _ _ _ _ _ _ _ _ _ _ _ _ _ _ _ _ _ _ _ _ _ _ _ _ _ _ _ _ y)

theorem blk0 (c : Dev nD) (t : Fin cfg0.N) (q : Fin 512) (e : Fin 1536) (h) :
    (iblk (F := Ideal) m c 0 t : FVec Ideal S512x1536 .f32) (ix2 q e) = (m ((c : Thread nD τ).loc main_arg0) : FVec Ideal S4096x1536 .f32) (ix2 ⟨512 * t.val + q.val, h⟩ e) := by
  blk_point [iblk, V, idx t]

theorem blk1 (c : Dev nD) (t : Fin cfg0.N) (q : Fin 32) (e : Fin 1536) (h) :
    (iblk (F := Ideal) m c 1 t : FVec Ideal S32x1536 .f32) (ix2 q e) = (m ((c : Thread nD τ).loc main_arg0) : FVec Ideal S4096x1536 .f32) (ix2 ⟨32 * (16 * t.val - 1) + q.val, h⟩ e) := by
  blk_point [iblk, V, idx t]

theorem blk2 (c : Dev nD) (t : Fin cfg0.N) : (iblk (F := Ideal) m c 2 t : FVec Ideal S4x31x1x128 .f32) = m ((c : Thread nD τ).loc main_arg1) := by
  funext y
  blk_point [iblk, V, idx t]

theorem blk3 (c : Dev nD) (t : Fin cfg0.N) : (iblk (F := Ideal) m c 3 t : FVec Ideal S1x512 .f32) = m ((c : Thread nD τ).loc main_arg2) := by
  funext y
  blk_point [iblk, V, idx t]

theorem blk4 (c : Dev nD) (t : Fin cfg0.N) : (iblk (F := Ideal) m c 4 t : FVec Ideal S1x512 .f32) = m ((c : Thread nD τ).loc main_arg3) := by
  funext y
  blk_point [iblk, V, idx t]

theorem blk5 (c : Dev nD) (t : Fin cfg0.N) : (iblk (F := Ideal) m c 5 t : FVec Ideal S1x512 .f32) = m ((c : Thread nD τ).loc main_arg4) := by
  funext y
  blk_point [iblk, V, idx t]

theorem blk6 (c : Dev nD) (t : Fin cfg0.N) : (iblk (F := Ideal) m c 6 t : FVec Ideal S4x128x128 .f32) = m ((c : Thread nD τ).loc main_arg5) := by
  funext y
  blk_point [iblk, V, idx t]

theorem blk7 (c : Dev nD) (t : Fin cfg0.N) : (iblk (F := Ideal) m c 7 t : FVec Ideal S1x512 .f32) = m ((c : Thread nD τ).loc main_arg6) := by
  funext y
  blk_point [iblk, V, idx t]

theorem t_lt (t : Fin cfg0.N) : t.val < 8 := t.isLt

theorem row0 (c : Dev nD) (t : Fin cfg0.N) (q e : ℕ) (hq : q < 512) (he : e < 1536) :
    at2 (iblk (F := Ideal) m c 0 t : FVec Ideal S512x1536 .f32) q e = at2 (m ((c : Thread nD τ).loc main_arg0) : FVec Ideal S4096x1536 .f32) (512 * t.val + q) e := by
  have ht := t_lt t
  exact (at2_ix2 _ ⟨q, hq⟩ ⟨e, he⟩).symm.trans ((blk0 m c t ⟨q, hq⟩ ⟨e, he⟩ (by show 512 * t.val + q < 4096; omega)).trans (at2_ix2 _ _ _))

theorem row1 (c : Dev nD) (t : Fin cfg0.N) (q e : ℕ) (hq : q < 32) (he : e < 1536) :
    at2 (iblk (F := Ideal) m c 1 t : FVec Ideal S32x1536 .f32) q e = at2 (m ((c : Thread nD τ).loc main_arg0) : FVec Ideal S4096x1536 .f32) (32 * (16 * t.val - 1) + q) e := by
  have ht := t_lt t
  exact (at2_ix2 _ ⟨q, hq⟩ ⟨e, he⟩).symm.trans ((blk1 m c t ⟨q, hq⟩ ⟨e, he⟩ (by show 32 * (16 * t.val - 1) + q < 4096; omega)).trans (at2_ix2 _ _ _))

theorem U_eq (c : Dev nD) (t : Fin cfg0.N) (q e : ℕ) (hq : q < 544) (hq2 : 2 ≤ q) (he : e < 512) :
    U (grid0.coords t) (iblk m c 0 t) (iblk m c 1 t) q e = uz (m ((c : Thread nD τ).loc main_arg0)) (512 * t.val + q - 2) e := by
  have hc : (grid0.coords t 0).val = t.val := (idx t).2.2.2.2.2.2.2.2.2.2
  unfold U uz
  rw [hc]
  by_cases h : q < 32
  · rw [if_pos h]
    by_cases h0 : t.val = 0
    · rw [if_pos h0, if_pos (by omega)]
    · rw [if_neg h0, if_neg (by omega), row1 m c t q e h (by omega), row1 m c t q (512 + e) h (by omega), show 32 * (16 * t.val - 1) + q = 512 * t.val + q - 2 - 30 by omega]
  · rw [if_neg h, if_neg (by omega), row0 m c t _ e (by omega) (by omega), row0 m c t _ (512 + e) (by omega) (by omega), show 512 * t.val + (q - 32) = 512 * t.val + q - 2 - 30 by omega]

theorem P_eq (c : Dev nD) (t : Fin cfg0.N) (d r e : ℕ) (hd : d ≤ 16) (hr : r < 512) (he : e < 512) :
    Pr (grid0.coords t) (iblk m c 0 t) (iblk m c 1 t) (32 - d + r) e = back (m ((c : Thread nD τ).loc main_arg0)) (512 * t.val + r) d e := by
  have hc : (grid0.coords t 0).val = t.val := (idx t).2.2.2.2.2.2.2.2.2.2
  unfold Pr back
  rw [hc]
  by_cases h : 32 - d + r < 32
  · rw [if_pos h]
    by_cases h0 : t.val = 0
    · rw [if_pos h0, if_neg (by omega)]
    · rw [if_neg h0, if_pos (by omega), row1 m c t _ (1024 + e) h (by omega), show 32 * (16 * t.val - 1) + (32 - d + r) = 512 * t.val + r - d by omega]
  · rw [if_neg h, if_pos (by omega), row0 m c t _ (1024 + e) (by omega) (by omega), show 512 * t.val + (32 - d + r - 32) = 512 * t.val + r - d by omega]

theorem Cv_eq (c : Dev nD) (t : Fin cfg0.N) (r e : Fin 512) (n : Fin 4096) (hn : n.val = 512 * t.val + r.val) :
    Cv (grid0.coords t) (iblk m c 0 t) (iblk m c 1 t) (iblk m c 2 t) (iblk m c 3 t) (ix2 r e)
      = Gv (m ((c : Thread nD τ).loc main_arg0)) (m ((c : Thread nD τ).loc main_arg1)) (m ((c : Thread nD τ).loc main_arg2)) (ix2 n e) := by
  have hr := r.isLt
  have he := e.isLt
  unfold Cv Gv
  rw [blk2, blk3]
  refine congrArg (· + _) (Finset.sum_congr rfl fun k _ => congrArg (· * _) ?_)
  have hk := k.isLt
  refine (U_eq m c t (2 + k.val + r.val) e.val (by omega) (by omega) he).trans ?_
  exact congrArg (fun q => uz _ q e.val) (show 512 * t.val + (2 + k.val + r.val) - 2 = k.val + n.val by omega)

theorem Bp_eq (c : Dev nD) (t : Fin cfg0.N) (g w r e : ℕ) (n : ℕ) (hn : n = 512 * t.val + r) (hr : r < 512) (hg : g < 4) (hw : w ≤ 16) :
    Bp (grid0.coords t) (iblk m c 0 t) (iblk m c 1 t) (iblk m c 6 t) (iblk m c 7 t) g w r e
      = Gp (m ((c : Thread nD τ).loc main_arg0)) (m ((c : Thread nD τ).loc main_arg5)) (m ((c : Thread nD τ).loc main_arg6)) g w n e := by
  have hc : (grid0.coords t 0).val = t.val := (idx t).2.2.2.2.2.2.2.2.2.2
  subst hn
  unfold Bp Gp pool
  rw [blk6, blk7, hc]
  refine congrArg (· * _) (Finset.sum_congr rfl fun x _ => congrArg (· * _) ?_)
  have hx := x.isLt
  have hp : ∀ d, d ≤ 16 → Pr (grid0.coords t) (iblk m c 0 t) (iblk m c 1 t) (32 - d + r) (128 * g + x.val) = _ := fun d hd =>
    P_eq m c t d r (128 * g + x.val) hd hr (by omega)
  refine congrArg₂ (fun a b => Ideal.div a _ - b) (Finset.sum_congr rfl fun d hd => hp d ?_) (hp 0 (by omega))
  have := Finset.mem_range.mp hd
  omega

theorem emb8 (t : Fin cfg0.N) (y : ((cfg0.win 8).xblock (cfg0.grid.coords t)).Idx) :
    (((win0_8.blk t).view.emb y) 0).val = 512 * t.val + (y 0).val ∧ (((win0_8.blk t).view.emb y) 1).val = (y 1).val := by
  constructor
  all_goals
    blk_simp [idx t]
    try omega

theorem emb9 (t : Fin cfg0.N) (y : ((cfg0.win 9).xblock (cfg0.grid.coords t)).Idx) :
    (((win0_9.blk t).view.emb y) 0).val = 512 * t.val + (y 0).val ∧ (((win0_9.blk t).view.emb y) 1).val = (y 1).val := by
  constructor
  all_goals
    blk_simp [idx t]
    try omega

theorem v_point (c : Dev nD) (t : Fin cfg0.N) (y : S512x512.Idx) (j : S4096x512.Idx) (h0 : (j 0).val = 512 * t.val + (y 0).val) (h1 : (j 1).val = (y 1).val) :
    Cv (grid0.coords t) (iblk m c 0 t) (iblk m c 1 t) (iblk m c 2 t) (iblk m c 3 t) y
      = Gv (m ((c : Thread nD τ).loc main_arg0)) (m ((c : Thread nD τ).loc main_arg1)) (m ((c : Thread nD τ).loc main_arg2)) j := by
  rw [← ix2_eta y, ← ix2_eta j, show j 1 = y 1 from Fin.ext h1]
  exact Cv_eq m c t (y 0) (y 1) (j 0) h0

theorem y_point (c : Dev nD) (t : Fin cfg0.N) (y : S512x1024.Idx) (j : S4096x1024.Idx) (h0 : (j 0).val = 512 * t.val + (y 0).val) (h1 : (j 1).val = (y 1).val) :
    Yb (grid0.coords t) (iblk m c 0 t) (iblk m c 1 t) (iblk m c 2 t) (iblk m c 3 t) (iblk m c 4 t) (iblk m c 5 t) (iblk m c 6 t) (iblk m c 7 t) y
      = Gy (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) j := by
  have hr : (y 0).val < 512 := (y 0).isLt
  have hp : ∀ g w e, g < 4 → w ≤ 16 → _ := fun g w e hg hw => Bp_eq m c t g w (y 0).val e (j 0).val h0 hr hg hw
  unfold Yb Gy
  rw [show j 1 = y 1 from Fin.ext h1]
  by_cases h : (y 1).val < 512
  · rw [dif_pos h, dif_pos h]
    unfold Bl
    rw [blk4, blk5]
    have hv : (fun k => Cv (grid0.coords t) (iblk m c 0 t) (iblk m c 1 t) (iblk m c 2 t) (iblk m c 3 t) (ix2 (y 0) k))
        = fun k => Gv (m ((c : Thread nD τ).loc main_arg0)) (m ((c : Thread nD τ).loc main_arg1)) (m ((c : Thread nD τ).loc main_arg2)) (ix2 (j 0) k) :=
      funext fun k => Cv_eq m c t (y 0) k (j 0) h0
    rw [hv]
  · rw [dif_neg h, dif_neg h, hp 0 2 _ (by omega) (by omega), hp 1 4 _ (by omega) (by omega), hp 2 8 _ (by omega) (by omega), hp 3 16 _ (by omega) (by omega)]

theorem final8 (c : Dev nD) : (dats m 0 c).arrAt 8 cfg0.N
    = Gy (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8, y_block]
  exact y_point m c t _ _ (emb8 t y).1 (emb8 t y).2

theorem final9 (c : Dev nD) : (dats m 0 c).arrAt 9 cfg0.N
    = Gv (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9, v_block]
  exact v_point m c t _ _ (emb9 t y).1 (emb9 t y).2

/-- Both results are the reference's, where the pooled columns are numbers. -/
theorem refY_of (x0 : FVec Ideal S4096x1536 .f32) (x1 : FVec Ideal S4x31x1x128 .f32) (x2 x3 x4 : FVec Ideal S1x512 .f32) (x5 : FVec Ideal S4x128x128 .f32) (x6 : FVec Ideal S1x512 .f32)
    (hz : ∀ j c, ∃ r : ℝ, at2 x0 j (1024 + c) = r) : Cert.SeqFwdRefIdeal.Read.val_main_v338 (F := Ideal) x0 x1 x2 x3 x4 x5 x6 = Gy x0 x1 x2 x3 x4 x5 x6 := by
  funext y
  rw [← ix2_eta y]
  exact refY x0 x1 x2 x3 x4 x5 x6 hz _ _

end Cert.Proof.SeqFwd
-- ==== Proof.SeqFwdFinite.lean ====
module

public import proofs.«01_k».proof.Proof.Finite
public import proofs.«01_k».proof.Proof.SeqFwdScr
public import proofs.«01_k».proof.Proof.Gen.Pre_pre_seq

@[expose] public section

/-! # The forward mixers' precondition: the pooled columns are real -/

noncomputable section

namespace Cert.Proof.Finite

open Idealize.ShloMosaic Cert.Proof.SeqFwd

theorem seq (z : FVec Ideal Cert.Pre_pre_seq.S4096x1536 .f32) (w : FVec Ideal Cert.Pre_pre_seq.S4x31x1x128 .f32) (b g l : FVec Ideal Cert.Pre_pre_seq.S1x512 .f32)
    (p : FVec Ideal Cert.Pre_pre_seq.S4x128x128 .f32) (s : FVec Ideal Cert.Pre_pre_seq.S1x512 .f32)
    (h : Cert.Pre_pre_seq.fn (F := Ideal) z w b g l p s = fun _ => 1#1) : ∀ j c, ∃ r : ℝ, at2 z j (1024 + c) = r := by
  intro j c
  by_cases hj : j < 4096 ∧ 1024 + c < 1536
  · obtain ⟨r, hr⟩ := real _ (congrFun h (ix2 (n0 := 4096) (n1 := 512) ⟨j, hj.1⟩ ⟨c, by omega⟩))
    refine ⟨r, Eq.trans ?_ hr⟩
    rw [at2, dif_pos hj]
    refine congrArg z ?_
    funext a
    fin_cases a <;> exact Fin.ext (by simp [ix2])
  · exact ⟨0, by rw [at2, dif_neg hj]; rfl⟩

end Cert.Proof.Finite
-- ==== Proof.PackSmallValue.lean ====
module

public import proofs.«01_k».proof.Proof.Gen.PackSmallIdeal.Value
public import proofs.«01_k».proof.Proof.Gen.PackSmallRefIdeal.Read
public import Idealize.ShloMosaic.Lib.Pipeline.ValueKit
public import Idealize.ShloMosaic.Lib.Pipeline.ReadBack
public import Idealize.ShloMosaic.Lib.Pointwise

@[expose] public section

set_option maxRecDepth 16384

/-! # The small weights' gradients in one array

Each gradient is stored in its rows, over zeros. -/

noncomputable section

namespace Cert.Proof.PackSmall

open Idealize.ShloMosaic Idealize.ShloMosaic.TcCoe Idealize.SL.Sem
open Cert.PackSmallIdeal Cert.PackSmallIdeal.Gen Cert.PackSmallRefIdeal.Read

variable (m : (ℓ : Loc nD τ sig) → Buf (Elt Ideal) ℓ)

/-- Every block is the whole array. -/
theorem idx : ∀ t : Fin cfg0.N, win0_0.index t = ![0, 0, 0] ∧ win0_1.index t = ![0, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] :=
  (by decide +kernel : ∀ t : Fin grid0.N, _)

/-- A store that holds its part of `G`, over stores that leave `G` elsewhere, leaves `G`. -/
theorem over {s : Shape} {e : EltTy} (G : s.Idx → Elt Ideal e) (p : View.Piece (Elt Ideal) s e) (L : List (View.Piece (Elt Ideal) s e)) (y : s.Idx)
    (h : ∀ x, p.2 x = G (p.1.emb x)) (hL : y ∉ p.1.set → View.canon L y = G y) : View.canon (p :: L) y = G y := by
  by_cases hy : y ∈ p.1.set
  · exact View.canon_append_of_pieces G L [p] (by simpa using h) y ⟨p, by simp, hy⟩
  · rw [View.canon_cons_of_not_mem p L hy]
    exact hL hy

/-- A row that isn't `k`. -/
theorem row {k r c : Nat} (hc : c < 512) (h : ¬((k ≤ r ∧ r < k + 1) ∧ 0 ≤ c ∧ c < 0 + 512)) : r ≠ k := by
  omega

/-- A row outside four blocks side by side. -/
theorem cols {a n r c : Nat} (hc : c < 512) (h0 : ¬((a ≤ r ∧ r < a + n) ∧ 0 ≤ c ∧ c < 0 + 128))
    (h1 : ¬((a ≤ r ∧ r < a + n) ∧ 128 ≤ c ∧ c < 128 + 128)) (h2 : ¬((a ≤ r ∧ r < a + n) ∧ 256 ≤ c ∧ c < 256 + 128))
    (h3 : ¬((a ≤ r ∧ r < a + n) ∧ 384 ≤ c ∧ c < 384 + 128)) : ¬(a ≤ r ∧ r < a + n) := by
  omega

set_option maxHeartbeats 4000000 in
theorem block (c : Dev nD) (t : Fin cfg0.N) : outsAt0 (F := Ideal) m c t
    = val_main_v8 (F := Ideal) (iblk m c 0 t) (iblk m c 1 t) (iblk m c 2 t) (iblk m c 3 t) (iblk m c 4 t) (iblk m c 5 t) (iblk m c 6 t) (iblk m c 7 t) (iblk m c 8 t) := by
  unfold outsAt0
  unfold out0_A_9
  rw [View.read_writes_junk_eq_canon]
  unfold kernelRun0_A
  funext y
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  iterate 19
    refine over _ _ _ _ (fun x => ?_) fun h => ?_
    · simp only [View.readAt_eq_ld, Memref.IsWhole.read_unread]
      unfold_payloads
      pointwise [val_main_v8, val_main_v7, val_main_cst, val_main_v6, val_main_v5, val_main_v4, val_main_v3, val_main_v2, val_main_v1, val_main_v0, ValueKit.rect_emb_unit_val]
      refine (congrFun (read_unread_whole _ _ _) _).trans (congrArg _ (funext fun a => Fin.ext ?_))
      have h0 : (x 0).val < _ := (x 0).isLt
      have h1 : (x 1).val < _ := (x 1).isLt
      fin_cases a <;> dsimp at h0 h1 ⊢ <;> first | rfl | omega
  rw [View.canon_cons_unit_lit _ _ _ (by decide)]
  unfold_payloads
  have hr : 171 ≤ (y 0).val := by
    have hc : (y 1).val < 512 := (y 1).isLt
    simp only [Rect.mem_set_unit, Fin.forall_fin_two, Matrix.cons_val_zero, Matrix.cons_val_one] at *
    rename_i n170 n169 n168 n167 n166 n165 n164 n163 n162 n161 n160 b3 b2 b1 b0 a3 a2 a1
    have ha := cols hc h a1 a2 a3
    have hb := cols hc b0 b1 b2 b3
    have h1 := And.intro (row hc n160) (And.intro (row hc n161) (And.intro (row hc n162) (row hc n163)))
    have h2 := And.intro (row hc n164) (And.intro (row hc n165) (And.intro (row hc n166) (row hc n167)))
    have h3 := And.intro (row hc n168) (And.intro (row hc n169) (row hc n170))
    clear * - ha hb h1 h2 h3
    omega
  clear * - hr
  pointwise [val_main_v8, val_main_v7, val_main_cst, val_main_v6, val_main_v5, val_main_v4, val_main_v3, val_main_v2, val_main_v1, val_main_v0]
  iterate 9 rw [dif_neg (by omega)]

theorem whole0 (c : Dev nD) (t : Fin cfg0.N) : iblk m c 0 t = m ((c : Thread nD τ).loc main_arg0) := by
  funext y
  blk_point [iblk, V, idx t]

theorem whole1 (c : Dev nD) (t : Fin cfg0.N) : iblk m c 1 t = m ((c : Thread nD τ).loc main_arg1) := by
  funext y
  blk_point [iblk, V, idx t]

theorem whole2 (c : Dev nD) (t : Fin cfg0.N) : iblk m c 2 t = m ((c : Thread nD τ).loc main_arg2) := by
  funext y
  blk_point [iblk, V, idx t]

theorem whole3 (c : Dev nD) (t : Fin cfg0.N) : iblk m c 3 t = m ((c : Thread nD τ).loc main_arg3) := by
  funext y
  blk_point [iblk, V, idx t]

theorem whole4 (c : Dev nD) (t : Fin cfg0.N) : iblk m c 4 t = m ((c : Thread nD τ).loc main_arg4) := by
  funext y
  blk_point [iblk, V, idx t]

theorem whole5 (c : Dev nD) (t : Fin cfg0.N) : iblk m c 5 t = m ((c : Thread nD τ).loc main_arg5) := by
  funext y
  blk_point [iblk, V, idx t]

theorem whole6 (c : Dev nD) (t : Fin cfg0.N) : iblk m c 6 t = m ((c : Thread nD τ).loc main_arg6) := by
  funext y
  blk_point [iblk, V, idx t]

theorem whole7 (c : Dev nD) (t : Fin cfg0.N) : iblk m c 7 t = m ((c : Thread nD τ).loc main_arg7) := by
  funext y
  blk_point [iblk, V, idx t]

theorem whole8 (c : Dev nD) (t : Fin cfg0.N) : iblk m c 8 t = m ((c : Thread nD τ).loc main_arg8) := by
  funext y
  blk_point [iblk, V, idx t]

/-- The packed gradients. -/
theorem final (c : Dev nD) : (dats m 0 c).arrAt 9 cfg0.N
    = val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  show (dats m 0 c).after 9 t y = _
  rw [after0_9, block, whole0, whole1, whole2, whole3, whole4, whole5, whole6, whole7, whole8]
  refine congrArg _ ?_
  blk_point [idx t]

end Cert.Proof.PackSmall
-- ==== Proof.SumSmallValue.lean ====
module

public import proofs.«01_k».proof.Proof.Gen.SumSmallIdeal.Frame
public import proofs.«01_k».proof.Proof.Gen.SumSmallRefIdeal.Read
public import Idealize.ShloMosaic.Lib.Pipeline.ValueKit
public import Idealize.ShloMosaic.Lib.Pipeline.ReadBack
public import Idealize.ShloMosaic.Lib.Pointwise

@[expose] public section

set_option maxRecDepth 16384

/-! # The sum of the packed gradients over the chips

A chip adds its own array and the three it was sent, two and two. The chip's number isn't read for this array. -/

noncomputable section

namespace Cert.Proof.SumSmall

open Idealize.ShloMosaic Idealize.ShloMosaic.TcCoe Idealize.SL.Sem
open Cert.SumSmallIdeal Cert.SumSmallIdeal.Gen Cert.SumSmallRefIdeal.Read

variable (m : (ℓ : Loc nD τ sig) → Buf (Elt Ideal) ℓ)

theorem idx : ∀ i : grid0.Coords, cc0_transform_0 i = ![0, 0] ∧ cc0_transform_1 i = ![0, 0, 0] ∧ cc0_transform_2 i = ![0, 0] :=
  (by decide +kernel)

/-- Nothing is asked of the chip's number. -/
theorem ok : Ok m := trivial

/-- Two and two is one and three. -/
theorem sum4 (a : EReal) (b : Fin 3 → EReal) : a + b 0 + (b 1 + b 2) = a + ∑ k, b k := by
  rw [Fin.sum_univ_three, add_assoc, add_assoc]

theorem block (hO : Ok m) (c : Dev nD) (t : Fin (cfgM m hO).N) : outsAt0 (F := Ideal) m hO c t
    = val_main_v1 (F := Ideal) (iblk m hO c 0 t) (iblk m hO c 1 t) := by
  unfold outsAt0
  unfold out0_A_2
  rw [View.read_writes_junk_eq_canon]
  unfold kernelRun0_A
  funext y
  dsimp only
  generalize iblk m hO c 0 t = x0
  generalize iblk m hO c 1 t = x1
  rw [View.canon_cons_unit_lit _ _ _ (by decide)]
  simp only [View.readAt_eq_ld, Memref.IsWhole.read_unread]
  unfold_payloads
  pointwise [val_main_v1, val_main_v0, val_main_cst, ValueKit.rect_emb_unit_val]
  have e0 : ∀ k, View.read (Elt Ideal) (ms0_0 m hO t).view ((hs0_0 m hO t).unread x0) k = x0 k := congrFun ((hs0_0 m hO t).read_unread x0)
  have e1 : ∀ k, View.read (Elt Ideal) (ms0_1 m hO t).view ((hs0_1 m hO t).unread x1) k = x1 k := congrFun ((hs0_1 m hO t).read_unread x1)
  refine (congrArg₂ (· + ·) (congrArg₂ (· + ·) (e0 _) (e1 _)) (congrArg₂ (· + ·) (e1 _) (e1 _))).trans ?_
  exact sum4 (x0 y) fun k => x1 (ix3 k (y 0) (y 1))

theorem at_zero {n k v : Nat} (h : n = 0) : n * k + v = v := by
  simp [h]

theorem own (hO : Ok m) (c : Dev nD) (t : Fin (cfgM m hO).N) :
    (iblk m hO c 0 t : FVec Ideal S176x512 .f32) = m ((c : Thread nD τ).loc main_arg1) := by
  have h := fun a => congrFun (idx (grid0.coords t)).1 a
  funext y
  blk_point [iblk, V]
  exacts [at_zero (h 0), at_zero (h 1)]

theorem sent (hO : Ok m) (c : Dev nD) (t : Fin (cfgM m hO).N) :
    (iblk m hO c 1 t : FVec Ideal S3x176x512 .f32) = m ((c : Thread nD τ).loc main_arg2) := by
  have h := fun a => congrFun (idx (grid0.coords t)).2.1 a
  funext y
  blk_point [iblk, V]
  exacts [at_zero (h 0), at_zero (h 1), at_zero (h 2)]

theorem covers (hO : Ok m) : ((cfgM m hO).win 2).Covers := by
  have hs : ∀ a, 0 < S176x512.size a ∧ (S176x512.size a + S176x512.size a - 1) / S176x512.size a = 1 := by decide +kernel
  refine ⟨fun a => (hs a).1, fun b => ⟨⟨0, Nat.zero_lt_one⟩, flush0_2 _ _, fun a => ⟨?_, Or.inl rfl⟩⟩⟩
  have hz : ∀ i : Fin 2, (![0, 0] : Fin 2 → Nat) i = 0 := by decide
  exact ((congrFun (idx _).2.2 a).trans (hz a)).trans (Nat.lt_one_iff.mp (lt_of_lt_of_eq (b a).isLt (hs a).2)).symm

/-- The sum. -/
theorem final (hO : Ok m) (c : Dev nD) : (dats m hO 0 c).arrAt 2 (cfgM m hO).N
    = val_main_v1 (F := Ideal) (m ((c : Thread nD τ).loc main_arg1)) (m ((c : Thread nD τ).loc main_arg2)) := by
  refine (dats m hO 0 c).arrAt_eq_of_covers 2 _ (covers m hO) fun t hf y => ?_
  show (dats m hO 0 c).after 2 t y = _
  rw [after0_2 m hO c t, block, own, sent]
  have h := fun a => congrFun (idx (grid0.coords t)).2.2 a
  refine congrArg _ ?_
  blk_point
  exacts [(at_zero (h 0)).symm, (at_zero (h 1)).symm]

/-- The run: it leaves the sum, and its arguments alone. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v0) = val_main_v1 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (final m (ok m) c), h.2 c⟩)
    (θ_run_and (run_main m g (ok m)) (unchanged m g (ok m)))

end Cert.Proof.SumSmall
-- ==== Proof.lean ====
/- The proof of every claim of the statement: each program runs and leaves its arguments alone, and leaves the arrays that its
   reference leaves. The arrays are computed in the modules imported here, one for each kernel. -/
module

public import proofs.«01_k».proof.Defs
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InRefIdeal
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateRefIdeal
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnRefIdeal
public import proofs.«01_k».proof.Proof.Gen.WDown
public import proofs.«01_k».proof.Proof.Gen.WDown.Skeleton
public import proofs.«01_k».proof.Proof.Gen.WDown.Launch
public import proofs.«01_k».proof.Proof.Gen.WDown.Points
public import proofs.«01_k».proof.Proof.Gen.WDown.Frame
public import proofs.«01_k».proof.Proof.Gen.WDownIdeal
public import proofs.«01_k».proof.Proof.Gen.WDownIdeal.Skeleton
public import proofs.«01_k».proof.Proof.Gen.WDownIdeal.Launch
public import proofs.«01_k».proof.Proof.Gen.WDownIdeal.Points
public import proofs.«01_k».proof.Proof.Gen.WDownIdeal.Frame
public import proofs.«01_k».proof.Proof.Gen.WDownRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.DownLoss
public import proofs.«01_k».proof.Proof.Gen.DownLoss.Skeleton
public import proofs.«01_k».proof.Proof.Gen.DownLoss.Launch
public import proofs.«01_k».proof.Proof.Gen.DownLoss.Points
public import proofs.«01_k».proof.Proof.Gen.DownLoss.Frame
public import proofs.«01_k».proof.Proof.Gen.DownLossIdeal
public import proofs.«01_k».proof.Proof.Gen.DownLossIdeal.Skeleton
public import proofs.«01_k».proof.Proof.Gen.DownLossIdeal.Launch
public import proofs.«01_k».proof.Proof.Gen.DownLossIdeal.Points
public import proofs.«01_k».proof.Proof.Gen.DownLossIdeal.Frame
public import proofs.«01_k».proof.Proof.Gen.DownLossRefIdeal
public import proofs.«01_k».proof.Proof.Gen.WOut
public import proofs.«01_k».proof.Proof.Gen.WOut.Skeleton
public import proofs.«01_k».proof.Proof.Gen.WOut.Launch
public import proofs.«01_k».proof.Proof.Gen.WOut.Points
public import proofs.«01_k».proof.Proof.Gen.WOut.Frame
public import proofs.«01_k».proof.Proof.Gen.WOutIdeal
public import proofs.«01_k».proof.Proof.Gen.WOutIdeal.Skeleton
public import proofs.«01_k».proof.Proof.Gen.WOutIdeal.Launch
public import proofs.«01_k».proof.Proof.Gen.WOutIdeal.Points
public import proofs.«01_k».proof.Proof.Gen.WOutIdeal.Frame
public import proofs.«01_k».proof.Proof.Gen.WOutRefIdeal
public import proofs.«01_k».proof.Proof.Gen.WIn
public import proofs.«01_k».proof.Proof.Gen.WIn.Skeleton
public import proofs.«01_k».proof.Proof.Gen.WIn.Launch
public import proofs.«01_k».proof.Proof.Gen.WIn.Points
public import proofs.«01_k».proof.Proof.Gen.WIn.Frame
public import proofs.«01_k».proof.Proof.Gen.WInIdeal
public import proofs.«01_k».proof.Proof.Gen.WInIdeal.Skeleton
public import proofs.«01_k».proof.Proof.Gen.WInIdeal.Launch
public import proofs.«01_k».proof.Proof.Gen.WInIdeal.Points
public import proofs.«01_k».proof.Proof.Gen.WInIdeal.Frame
public import proofs.«01_k».proof.Proof.Gen.WInRefIdeal
public import proofs.«01_k».proof.Proof.Gen.Pre_pre_gate
public import proofs.«01_k».proof.Proof.Gen.Pre_pre_gu
public import proofs.«01_k».proof.Proof.Gen.Pre_pre_seq
public import proofs.«01_k».proof.Proof.Gen.InBwdIdeal.Value
public import proofs.«01_k».proof.Proof.Gen.GateBwdIdeal.Value
public import proofs.«01_k».proof.Proof.Gen.FfnBwdIdeal.Value
public import proofs.«01_k».proof.Proof.Gen.WDownIdeal.Value
public import proofs.«01_k».proof.Proof.Gen.InProjIdeal.Value
public import proofs.«01_k».proof.Proof.Gen.OutProjIdeal.Value
public import proofs.«01_k».proof.Proof.Gen.GateUpIdeal.Value
public import proofs.«01_k».proof.Proof.Gen.DownLossIdeal.Value
public import proofs.«01_k».proof.Proof.Gen.WOutIdeal.Value
public import proofs.«01_k».proof.Proof.Gen.WInIdeal.Value
public import proofs.«01_k».proof.Proof.Gen.InRefIdeal.Read
public import proofs.«01_k».proof.Proof.Gen.InRefIdeal.Run
public import proofs.«01_k».proof.Proof.Gen.GateRefIdeal.Read
public import proofs.«01_k».proof.Proof.Gen.GateRefIdeal.Run
public import proofs.«01_k».proof.Proof.Gen.FfnRefIdeal.Read
public import proofs.«01_k».proof.Proof.Gen.FfnRefIdeal.Run
public import proofs.«01_k».proof.Proof.Gen.WDownRefIdeal.Read
public import proofs.«01_k».proof.Proof.Gen.WDownRefIdeal.Run
public import proofs.«01_k».proof.Proof.Gen.InProjRefIdeal.Read
public import proofs.«01_k».proof.Proof.Gen.InProjRefIdeal.Run
public import proofs.«01_k».proof.Proof.Gen.OutProjRefIdeal.Read
public import proofs.«01_k».proof.Proof.Gen.OutProjRefIdeal.Run
public import proofs.«01_k».proof.Proof.Gen.GateUpRefIdeal.Read
public import proofs.«01_k».proof.Proof.Gen.GateUpRefIdeal.Run
public import proofs.«01_k».proof.Proof.Gen.DownLossRefIdeal.Read
public import proofs.«01_k».proof.Proof.Gen.DownLossRefIdeal.Run
public import proofs.«01_k».proof.Proof.Gen.WOutRefIdeal.Read
public import proofs.«01_k».proof.Proof.Gen.WOutRefIdeal.Run
public import proofs.«01_k».proof.Proof.Gen.WInRefIdeal.Read
public import proofs.«01_k».proof.Proof.Gen.WInRefIdeal.Run
public import Idealize.ShloMosaic.Adequacy
public import Idealize.ShloMosaic.Init
public import proofs.«01_k».proof.Proof.InBwdValue
public import proofs.«01_k».proof.Proof.GateBwdValue
public import proofs.«01_k».proof.Proof.FfnBwdValue
public import proofs.«01_k».proof.Proof.WDownValue
public import proofs.«01_k».proof.Proof.InProjValue
public import proofs.«01_k».proof.Proof.OutProjValue
public import proofs.«01_k».proof.Proof.GateUpValue
public import proofs.«01_k».proof.Proof.DownLossValue
public import proofs.«01_k».proof.Proof.WOutValue
public import proofs.«01_k».proof.Proof.WInValue
public import proofs.«01_k».proof.Proof.Finite
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.AdamInValue
public import proofs.«01_k».proof.Proof.Gen.SeqFwd
public import proofs.«01_k».proof.Proof.Gen.SeqFwd.Skeleton
public import proofs.«01_k».proof.Proof.Gen.SeqFwd.Launch
public import proofs.«01_k».proof.Proof.Gen.SeqFwd.Points
public import proofs.«01_k».proof.Proof.Gen.SeqFwd.Frame
public import proofs.«01_k».proof.Proof.Gen.SeqFwdIdeal
public import proofs.«01_k».proof.Proof.Gen.SeqFwdIdeal.Skeleton
public import proofs.«01_k».proof.Proof.Gen.SeqFwdIdeal.Launch
public import proofs.«01_k».proof.Proof.Gen.SeqFwdIdeal.Points
public import proofs.«01_k».proof.Proof.Gen.SeqFwdIdeal.Frame
public import proofs.«01_k».proof.Proof.Gen.SeqFwdRefIdeal
public import proofs.«01_k».proof.Proof.Gen.SeqFwdIdeal.Value
public import proofs.«01_k».proof.Proof.Gen.SeqFwdRefIdeal.Run
public import proofs.«01_k».proof.Proof.Gen.SeqFwdRefIdeal.Read
public import proofs.«01_k».proof.Proof.SeqFwdValue
public import proofs.«01_k».proof.Proof.SeqFwdFinite
public import proofs.«01_k».proof.Proof.Gen.PackSmall
public import proofs.«01_k».proof.Proof.Gen.PackSmall.Skeleton
public import proofs.«01_k».proof.Proof.Gen.PackSmall.Launch
public import proofs.«01_k».proof.Proof.Gen.PackSmall.Points
public import proofs.«01_k».proof.Proof.Gen.PackSmall.Frame
public import proofs.«01_k».proof.Proof.Gen.PackSmallIdeal
public import proofs.«01_k».proof.Proof.Gen.PackSmallIdeal.Skeleton
public import proofs.«01_k».proof.Proof.Gen.PackSmallIdeal.Launch
public import proofs.«01_k».proof.Proof.Gen.PackSmallIdeal.Points
public import proofs.«01_k».proof.Proof.Gen.PackSmallIdeal.Frame
public import proofs.«01_k».proof.Proof.Gen.PackSmallRefIdeal
public import proofs.«01_k».proof.Proof.Gen.PackSmallIdeal.Value
public import proofs.«01_k».proof.Proof.Gen.PackSmallRefIdeal.Run
public import proofs.«01_k».proof.Proof.Gen.PackSmallRefIdeal.Read
public import proofs.«01_k».proof.Proof.PackSmallValue
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.SumSmallRefIdeal.Run
public import proofs.«01_k».proof.Proof.Gen.SumSmallRefIdeal.Read
public import proofs.«01_k».proof.Proof.SumSmallValue
public import Idealize.ShloMosaic.Lib.Claim

@[expose] public section

noncomputable section

namespace Cert.Proof

open Idealize.ShloMosaic Idealize.SL.Sem

theorem inBwd : Cert.algebraic_InBwdIdeal_InRefIdeal := by
  pair_intro
  · run_from Cert.InBwdIdeal.Gen.run_main m g
  · run_from Cert.InRefIdeal.Value.run m' g'
    · obtain ⟨a0, a1, a2, a3, a4⟩ := hagree c
      rw [Cert.InRefIdeal.Read.val_main_v42_eq m' c, a0, a1, a2, a3, a4]
      exact (InBwd.ref5 (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).trans (InBwd.final5 m c).symm
    · exact (InBwd.ref6 (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2))).trans (InBwd.final6 m c).symm

theorem gateBwd : Cert.algebraic_GateBwdIdeal_GateRefIdeal_pre_pre_gate := by
  pair_intro
  · run_from Cert.GateBwdIdeal.Gen.run_main m g
    · exact Cert.GateBwdIdeal.Gen.V_main_arg2 m c
    · exact Cert.GateBwdIdeal.Gen.V_main_arg3 m c
  · run_from Cert.GateRefIdeal.Value.run m' g'
    · obtain ⟨hd, hw, hu⟩ := Finite.gate _ _ _ _ (hpre c)
      exact (GateBwd.ref4 (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (fun i => Silu.dot_real _ _ (fun k => hd _) (fun k => hw _)) hu).trans (GateBwd.final4 m c).symm
    · exact (GateBwd.ref5 (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2))).trans (GateBwd.final5 m c).symm

set_option maxHeartbeats 4000000 in
theorem ffnBwd : Cert.algebraic_FfnBwdIdeal_FfnRefIdeal := by
  pair_intro
  · run_from Cert.FfnBwdIdeal.Gen.run_main m g
  · run_from Cert.FfnRefIdeal.Value.run m' g'
    · obtain ⟨a0, a1, a2, a3, a4, a5, a6, a7⟩ := hagree c
      rw [Cert.FfnRefIdeal.Read.val_main_v49_eq m' c, a0, a1, a2, a3, a4, a5, a6]
      exact (FfnBwd.ref8 (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).trans (FfnBwd.final8 m c).symm
    · obtain ⟨a0, a1, a2, a3, a4, a5, a6, a7⟩ := hagree c
      rw [Cert.FfnRefIdeal.Read.val_main_v54_eq m' c, a0, a1, a2, a3, a4, a5, a6]
      exact (FfnBwd.ref9 (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).trans (FfnBwd.final9 m c).symm
    · obtain ⟨a0, a1, a2, a3, a4, a5, a6, a7⟩ := hagree c
      rw [Cert.FfnRefIdeal.Read.val_main_v53_eq m' c, a0, a1, a2, a3, a4, a5, a6, a7]
      exact (FfnBwd.ref10 (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).trans (FfnBwd.final10 m c).symm
    · refine (Cert.FfnRefIdeal.Read.val_main_v50_eq (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).trans ?_
      exact (FfnBwd.ref11 (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).trans (FfnBwd.final11 m c).symm

theorem wDown : Cert.algebraic_WDownIdeal_WDownRefIdeal := by
  pair_intro
  · run_from Cert.WDownIdeal.Gen.run_main m g
  · run_from Cert.WDownRefIdeal.Value.run m' g'
    exact (WDown.ref (m ((c.tc : Thread Cert.WDownIdeal.nD Cert.WDownIdeal.τ).loc Cert.WDownIdeal.main_arg0)) (m ((c.tc : Thread Cert.WDownIdeal.nD Cert.WDownIdeal.τ).loc Cert.WDownIdeal.main_arg1))).trans (WDown.final m c).symm

theorem inProj : Cert.algebraic_InProjIdeal_InProjRefIdeal := by
  pair_intro
  · run_from Cert.InProjIdeal.Gen.run_main m g
  · run_from Cert.InProjRefIdeal.Value.run m' g'
    · exact (InProj.final4 m c).symm
    · exact (InProj.final5 m c).symm

theorem outProj : Cert.algebraic_OutProjIdeal_OutProjRefIdeal := by
  pair_intro
  · run_from Cert.OutProjIdeal.Gen.run_main m g
  · run_from Cert.OutProjRefIdeal.Value.run m' g'
    · exact (OutProj.final4 m c).symm
    · exact (OutProj.final5 m c).symm

theorem gateUp : Cert.algebraic_GateUpIdeal_GateUpRefIdeal_pre_pre_gu := by
  pair_intro
  · run_from Cert.GateUpIdeal.Gen.run_main m g
  · run_from Cert.GateUpRefIdeal.Value.run m' g'
    · exact (GateUp.ref3 (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1))).trans (GateUp.final3 m c).symm
    · obtain ⟨hx, hu⟩ := Finite.gu _ _ _ (hpre c)
      exact (GateUp.ref4 (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (fun i => Silu.dot_real _ _ (fun k => hx _) (fun k => hu _))).trans (GateUp.final4 m c).symm
    · exact (GateUp.ref5 (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))).trans (GateUp.final5 m c).symm

set_option maxHeartbeats 4000000 in
theorem downLoss : Cert.algebraic_DownLossIdeal_DownLossRefIdeal := by
  pair_intro
  · run_from Cert.DownLossIdeal.Gen.run_main m g
  · run_from Cert.DownLossRefIdeal.Value.run m' g'
    · obtain ⟨a0, a1, a2, a3, a4⟩ := hagree c
      rw [Cert.DownLossRefIdeal.Read.val_main_v55_eq m' c, a0, a1, a2, a3, a4]
      exact (DownLoss.ref5 (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).trans (DownLoss.final5 m c).symm
    · obtain ⟨a0, a1, a2, a3, a4⟩ := hagree c
      rw [Cert.DownLossRefIdeal.Read.val_main_v57_eq m' c, a0, a1, a2, a3, a4]
      exact (DownLoss.ref6 (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).trans (DownLoss.final6 m c).symm
    · refine (Cert.DownLossRefIdeal.Read.val_main_v58_eq (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).trans ?_
      exact (DownLoss.ref7 (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).trans (DownLoss.final7 m c).symm
    · refine (Cert.DownLossRefIdeal.Read.val_main_v56_eq (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).trans ?_
      exact (DownLoss.ref8 (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).trans (DownLoss.final8 m c).symm

theorem wOut : Cert.algebraic_WOutIdeal_WOutRefIdeal := by
  pair_intro
  · run_from Cert.WOutIdeal.Gen.run_main m g
  · run_from Cert.WOutRefIdeal.Value.run m' g'
    exact (WOut.ref (m ((c.tc : Thread Cert.WOutIdeal.nD Cert.WOutIdeal.τ).loc Cert.WOutIdeal.main_arg0)) (m ((c.tc : Thread Cert.WOutIdeal.nD Cert.WOutIdeal.τ).loc Cert.WOutIdeal.main_arg1))).trans (WOut.final m c).symm

theorem wIn : Cert.algebraic_WInIdeal_WInRefIdeal := by
  pair_intro
  · run_from Cert.WInIdeal.Gen.run_main m g
  · run_from Cert.WInRefIdeal.Value.run m' g'
    exact (WIn.ref (m ((c.tc : Thread Cert.WInIdeal.nD Cert.WInIdeal.τ).loc Cert.WInIdeal.main_arg0)) (m ((c.tc : Thread Cert.WInIdeal.nD Cert.WInIdeal.τ).loc Cert.WInIdeal.main_arg1))).trans (WIn.final m c).symm

theorem adamIn : Cert.algebraic_AdamInIdeal_AdamInRefIdeal := by
  pair_intro
  · run_from Cert.AdamInIdeal.Gen.run_main m g
  · run_from Cert.AdamInRefIdeal.Value.run m' g'
    · exact (AdamIn.final5 m c).symm
    · exact (AdamIn.final6 m c).symm
    · exact (AdamIn.final7 m c).symm
    · exact (AdamIn.final8 m c).symm

set_option maxHeartbeats 4000000 in
theorem seqFwd : Cert.algebraic_SeqFwdIdeal_SeqFwdRefIdeal_pre_pre_seq := by
  pair_intro
  · run_from Cert.SeqFwdIdeal.Gen.run_main m g
  · run_from Cert.SeqFwdRefIdeal.Value.run m' g'
    · obtain ⟨a0, a1, a2, a3, a4, a5, a6⟩ := hagree c
      refine Eq.trans (b := Cert.SeqFwdRefIdeal.Read.val_main_v338 (F := Ideal) (m' ((c.tc : Thread Cert.SeqFwdRefIdeal.nD Cert.SeqFwdRefIdeal.τ).loc Cert.SeqFwdRefIdeal.main_arg0)) (m' ((c.tc : Thread Cert.SeqFwdRefIdeal.nD Cert.SeqFwdRefIdeal.τ).loc Cert.SeqFwdRefIdeal.main_arg1)) (m' ((c.tc : Thread Cert.SeqFwdRefIdeal.nD Cert.SeqFwdRefIdeal.τ).loc Cert.SeqFwdRefIdeal.main_arg2)) (m' ((c.tc : Thread Cert.SeqFwdRefIdeal.nD Cert.SeqFwdRefIdeal.τ).loc Cert.SeqFwdRefIdeal.main_arg3)) (m' ((c.tc : Thread Cert.SeqFwdRefIdeal.nD Cert.SeqFwdRefIdeal.τ).loc Cert.SeqFwdRefIdeal.main_arg4)) (m' ((c.tc : Thread Cert.SeqFwdRefIdeal.nD Cert.SeqFwdRefIdeal.τ).loc Cert.SeqFwdRefIdeal.main_arg5)) (m' ((c.tc : Thread Cert.SeqFwdRefIdeal.nD Cert.SeqFwdRefIdeal.τ).loc Cert.SeqFwdRefIdeal.main_arg6))) (Cert.SeqFwdRefIdeal.Read.val_main_v338_eq (StableHlo.launchContents m' c)) ?_
      rw [a0, a1, a2, a3, a4, a5, a6]
      exact (SeqFwd.refY_of (m ((c.tc : Thread Cert.SeqFwdIdeal.nD Cert.SeqFwdIdeal.τ).loc Cert.SeqFwdIdeal.main_arg0)) (m ((c.tc : Thread Cert.SeqFwdIdeal.nD Cert.SeqFwdIdeal.τ).loc Cert.SeqFwdIdeal.main_arg1)) (m ((c.tc : Thread Cert.SeqFwdIdeal.nD Cert.SeqFwdIdeal.τ).loc Cert.SeqFwdIdeal.main_arg2)) (m ((c.tc : Thread Cert.SeqFwdIdeal.nD Cert.SeqFwdIdeal.τ).loc Cert.SeqFwdIdeal.main_arg3)) (m ((c.tc : Thread Cert.SeqFwdIdeal.nD Cert.SeqFwdIdeal.τ).loc Cert.SeqFwdIdeal.main_arg4)) (m ((c.tc : Thread Cert.SeqFwdIdeal.nD Cert.SeqFwdIdeal.τ).loc Cert.SeqFwdIdeal.main_arg5)) (m ((c.tc : Thread Cert.SeqFwdIdeal.nD Cert.SeqFwdIdeal.τ).loc Cert.SeqFwdIdeal.main_arg6)) (Finite.seq _ _ _ _ _ _ _ (hpre c))).trans (SeqFwd.final8 m c).symm
    · obtain ⟨a0, a1, a2, a3, a4, a5, a6⟩ := hagree c
      refine Eq.trans (b := Cert.SeqFwdRefIdeal.Read.val_main_v235 (F := Ideal) (m' ((c.tc : Thread Cert.SeqFwdRefIdeal.nD Cert.SeqFwdRefIdeal.τ).loc Cert.SeqFwdRefIdeal.main_arg0)) (m' ((c.tc : Thread Cert.SeqFwdRefIdeal.nD Cert.SeqFwdRefIdeal.τ).loc Cert.SeqFwdRefIdeal.main_arg1)) (m' ((c.tc : Thread Cert.SeqFwdRefIdeal.nD Cert.SeqFwdRefIdeal.τ).loc Cert.SeqFwdRefIdeal.main_arg2))) (Cert.SeqFwdRefIdeal.Read.val_main_v235_eq (StableHlo.launchContents m' c)) ?_
      rw [a0, a1, a2]
      exact (SeqFwd.refV (m ((c.tc : Thread Cert.SeqFwdIdeal.nD Cert.SeqFwdIdeal.τ).loc Cert.SeqFwdIdeal.main_arg0)) (m ((c.tc : Thread Cert.SeqFwdIdeal.nD Cert.SeqFwdIdeal.τ).loc Cert.SeqFwdIdeal.main_arg1)) (m ((c.tc : Thread Cert.SeqFwdIdeal.nD Cert.SeqFwdIdeal.τ).loc Cert.SeqFwdIdeal.main_arg2))).trans (SeqFwd.final9 m c).symm

set_option maxHeartbeats 4000000 in
theorem packSmall : Cert.algebraic_PackSmallIdeal_PackSmallRefIdeal := by
  pair_intro
  · run_from Cert.PackSmallIdeal.Gen.run_main m g
  · run_from Cert.PackSmallRefIdeal.Value.run m' g'
    · obtain ⟨-, -, -, -, a4, a5, a6, a7, a8⟩ := hagree c
      refine Eq.trans (b := Cert.PackSmallRefIdeal.Read.val_main_v8 (F := Ideal) (m ((c.tc : Thread Cert.PackSmallIdeal.nD Cert.PackSmallIdeal.τ).loc Cert.PackSmallIdeal.main_arg0)) (m ((c.tc : Thread Cert.PackSmallIdeal.nD Cert.PackSmallIdeal.τ).loc Cert.PackSmallIdeal.main_arg1)) (m ((c.tc : Thread Cert.PackSmallIdeal.nD Cert.PackSmallIdeal.τ).loc Cert.PackSmallIdeal.main_arg2)) (m ((c.tc : Thread Cert.PackSmallIdeal.nD Cert.PackSmallIdeal.τ).loc Cert.PackSmallIdeal.main_arg3)) (m' ((c.tc : Thread Cert.PackSmallRefIdeal.nD Cert.PackSmallRefIdeal.τ).loc Cert.PackSmallRefIdeal.main_arg4)) (m' ((c.tc : Thread Cert.PackSmallRefIdeal.nD Cert.PackSmallRefIdeal.τ).loc Cert.PackSmallRefIdeal.main_arg5)) (m' ((c.tc : Thread Cert.PackSmallRefIdeal.nD Cert.PackSmallRefIdeal.τ).loc Cert.PackSmallRefIdeal.main_arg6)) (m' ((c.tc : Thread Cert.PackSmallRefIdeal.nD Cert.PackSmallRefIdeal.τ).loc Cert.PackSmallRefIdeal.main_arg7)) (m' ((c.tc : Thread Cert.PackSmallRefIdeal.nD Cert.PackSmallRefIdeal.τ).loc Cert.PackSmallRefIdeal.main_arg8))) rfl ?_
      rw [a4, a5, a6, a7, a8]
      exact (PackSmall.final m c).symm

theorem sumSmall : Cert.algebraic_SumSmallIdeal_SumSmallRefIdeal := by
  pair_intro
  · run_from SumSmall.run m g
  · run_from Cert.SumSmallRefIdeal.Value.run m' g'
    · rfl

theorem claim : Cert.Claim :=
  ⟨Cert.InBwd.Gen.facts, Cert.InBwdIdeal.Gen.facts, Cert.InRefIdeal.Gen.facts, Cert.GateBwd.Gen.facts, Cert.GateBwdIdeal.Gen.facts, Cert.GateRefIdeal.Gen.facts, Cert.FfnBwd.Gen.facts, Cert.FfnBwdIdeal.Gen.facts, Cert.FfnRefIdeal.Gen.facts, Cert.WDown.Gen.facts, Cert.WDownIdeal.Gen.facts, Cert.WDownRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.GateUp.Gen.facts, Cert.GateUpIdeal.Gen.facts, Cert.GateUpRefIdeal.Gen.facts, Cert.DownLoss.Gen.facts, Cert.DownLossIdeal.Gen.facts, Cert.DownLossRefIdeal.Gen.facts, Cert.WOut.Gen.facts, Cert.WOutIdeal.Gen.facts, Cert.WOutRefIdeal.Gen.facts, Cert.WIn.Gen.facts, Cert.WInIdeal.Gen.facts, Cert.WInRefIdeal.Gen.facts, Cert.AdamIn.Gen.facts, Cert.AdamInIdeal.Gen.facts, Cert.AdamInRefIdeal.Gen.facts, Cert.SeqFwd.Gen.facts, Cert.SeqFwdIdeal.Gen.facts, Cert.SeqFwdRefIdeal.Gen.facts, Cert.PackSmall.Gen.facts, Cert.PackSmallIdeal.Gen.facts, Cert.PackSmallRefIdeal.Gen.facts, Cert.SumSmall.Gen.facts, Cert.SumSmallIdeal.Gen.facts, Cert.SumSmallRefIdeal.Gen.facts, Cert.Pre_pre_gate.Gen.facts, Cert.Pre_pre_gu.Gen.facts, Cert.Pre_pre_seq.Gen.facts,
    fun m ρ _ => Cert.InBwd.Gen.frame m ρ,
    fun m ρ _ => Cert.InBwdIdeal.Gen.frame m ρ,
    fun m ρ _ => (θ_run Cert.InRefIdeal.defs _ _).mono (fun r h => ⟨fun c => (h c).2.2, sem_eq_zero_of_no_sems (by decide) r.2⟩) (Cert.InRefIdeal.Value.run m ρ),
    fun m ρ _ => Cert.GateBwd.Gen.frame m ρ,
    fun m ρ _ => Cert.GateBwdIdeal.Gen.frame m ρ,
    fun m ρ _ => Cert.GateBwdIdeal.Gen.frame m ρ,
    fun m ρ _ => (θ_run Cert.GateRefIdeal.defs _ _).mono (fun r h => ⟨fun c => (h c).2.2, sem_eq_zero_of_no_sems (by decide) r.2⟩) (Cert.GateRefIdeal.Value.run m ρ),
    fun m ρ _ => (θ_run Cert.GateRefIdeal.defs _ _).mono (fun r h => ⟨fun c => (h c).2.2, sem_eq_zero_of_no_sems (by decide) r.2⟩) (Cert.GateRefIdeal.Value.run m ρ),
    fun m ρ _ => Cert.FfnBwd.Gen.frame m ρ,
    fun m ρ _ => Cert.FfnBwdIdeal.Gen.frame m ρ,
    fun m ρ _ => (θ_run Cert.FfnRefIdeal.defs _ _).mono (fun r h => ⟨fun c => (h c).2.2.2.2, sem_eq_zero_of_no_sems (by decide) r.2⟩) (Cert.FfnRefIdeal.Value.run m ρ),
    fun m ρ _ => Cert.WDown.Gen.frame m ρ,
    fun m ρ _ => Cert.WDownIdeal.Gen.frame m ρ,
    fun m ρ _ => (θ_run Cert.WDownRefIdeal.defs _ _).mono (fun r h => ⟨fun c => (h c).2, sem_eq_zero_of_no_sems (by decide) r.2⟩) (Cert.WDownRefIdeal.Value.run m ρ),
    fun m ρ _ => Cert.InProj.Gen.frame m ρ,
    fun m ρ _ => Cert.InProjIdeal.Gen.frame m ρ,
    fun m ρ _ => (θ_run Cert.InProjRefIdeal.defs _ _).mono (fun r h => ⟨fun c => (h c).2.2, sem_eq_zero_of_no_sems (by decide) r.2⟩) (Cert.InProjRefIdeal.Value.run m ρ),
    fun m ρ _ => Cert.OutProj.Gen.frame m ρ,
    fun m ρ _ => Cert.OutProjIdeal.Gen.frame m ρ,
    fun m ρ _ => (θ_run Cert.OutProjRefIdeal.defs _ _).mono (fun r h => ⟨fun c => (h c).2.2, sem_eq_zero_of_no_sems (by decide) r.2⟩) (Cert.OutProjRefIdeal.Value.run m ρ),
    fun m ρ _ => Cert.GateUp.Gen.frame m ρ,
    fun m ρ _ => Cert.GateUpIdeal.Gen.frame m ρ,
    fun m ρ _ => Cert.GateUpIdeal.Gen.frame m ρ,
    fun m ρ _ => (θ_run Cert.GateUpRefIdeal.defs _ _).mono (fun r h => ⟨fun c => (h c).2.2.2, sem_eq_zero_of_no_sems (by decide) r.2⟩) (Cert.GateUpRefIdeal.Value.run m ρ),
    fun m ρ _ => (θ_run Cert.GateUpRefIdeal.defs _ _).mono (fun r h => ⟨fun c => (h c).2.2.2, sem_eq_zero_of_no_sems (by decide) r.2⟩) (Cert.GateUpRefIdeal.Value.run m ρ),
    fun m ρ _ => Cert.DownLoss.Gen.frame m ρ,
    fun m ρ _ => Cert.DownLossIdeal.Gen.frame m ρ,
    fun m ρ _ => (θ_run Cert.DownLossRefIdeal.defs _ _).mono (fun r h => ⟨fun c => (h c).2.2.2.2, sem_eq_zero_of_no_sems (by decide) r.2⟩) (Cert.DownLossRefIdeal.Value.run m ρ),
    fun m ρ _ => Cert.WOut.Gen.frame m ρ,
    fun m ρ _ => Cert.WOutIdeal.Gen.frame m ρ,
    fun m ρ _ => (θ_run Cert.WOutRefIdeal.defs _ _).mono (fun r h => ⟨fun c => (h c).2, sem_eq_zero_of_no_sems (by decide) r.2⟩) (Cert.WOutRefIdeal.Value.run m ρ),
    fun m ρ _ => Cert.WIn.Gen.frame m ρ,
    fun m ρ _ => Cert.WInIdeal.Gen.frame m ρ,
    fun m ρ _ => (θ_run Cert.WInRefIdeal.defs _ _).mono (fun r h => ⟨fun c => (h c).2, sem_eq_zero_of_no_sems (by decide) r.2⟩) (Cert.WInRefIdeal.Value.run m ρ),
    fun m ρ _ => Cert.AdamIn.Gen.frame m ρ,
    fun m ρ _ => Cert.AdamInIdeal.Gen.frame m ρ,
    fun m ρ _ => (θ_run Cert.AdamInRefIdeal.defs _ _).mono (fun r h => ⟨fun c => (h c).2.2.2.2, sem_eq_zero_of_no_sems (by decide) r.2⟩) (Cert.AdamInRefIdeal.Value.run m ρ),
    fun m ρ _ => Cert.SeqFwd.Gen.frame m ρ,
    fun m ρ _ => Cert.SeqFwdIdeal.Gen.frame m ρ,
    fun m ρ _ => Cert.SeqFwdIdeal.Gen.frame m ρ,
    fun m ρ _ => (θ_run Cert.SeqFwdRefIdeal.defs _ _).mono (fun r h => ⟨fun c => (h c).2.2, sem_eq_zero_of_no_sems (by decide) r.2⟩) (Cert.SeqFwdRefIdeal.Value.run m ρ),
    fun m ρ _ => (θ_run Cert.SeqFwdRefIdeal.defs _ _).mono (fun r h => ⟨fun c => (h c).2.2, sem_eq_zero_of_no_sems (by decide) r.2⟩) (Cert.SeqFwdRefIdeal.Value.run m ρ),
    fun m ρ _ => Cert.PackSmall.Gen.frame m ρ,
    fun m ρ _ => Cert.PackSmallIdeal.Gen.frame m ρ,
    fun m ρ _ => (θ_run Cert.PackSmallRefIdeal.defs _ _).mono (fun r h => ⟨fun c => (h c).2, sem_eq_zero_of_no_sems (by decide) r.2⟩) (Cert.PackSmallRefIdeal.Value.run m ρ),
    fun m ρ _ => Cert.SumSmall.Gen.frame m ρ trivial,
    fun m ρ _ => Cert.SumSmallIdeal.Gen.frame m ρ trivial,
    fun m ρ _ => (θ_run Cert.SumSmallRefIdeal.defs _ _).mono (fun r h => ⟨fun c => (h c).2, sem_eq_zero_of_no_sems (by decide) r.2⟩) (Cert.SumSmallRefIdeal.Value.run m ρ),
    trivial,
    inBwd,
    trivial,
    gateBwd,
    trivial,
    ffnBwd,
    trivial,
    wDown,
    trivial,
    inProj,
    trivial,
    outProj,
    trivial,
    gateUp,
    trivial,
    downLoss,
    trivial,
    wOut,
    trivial,
    wIn,
    trivial,
    adamIn,
    trivial,
    seqFwd,
    trivial,
    packSmall,
    trivial,
    sumSmall⟩

end Cert.Proof

end
